-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S128x4096 : Shape := ⟨2, ![128, 4096]⟩
abbrev S128x1 : Shape := ⟨2, ![128, 1]⟩
abbrev S128x256 : Shape := ⟨2, ![128, 256]⟩
abbrev S128x128 : Shape := ⟨2, ![128, 128]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 2
  | .vmem => 8
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x1, .f32⟩
  | .local _ .vmem, ⟨7, _⟩ => ⟨S128x1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S512x4096 : Shape := ⟨2, ![512, 4096]⟩
abbrev S3 : Shape := ⟨1, ![3]⟩
abbrev S_ : Shape := ⟨0, ![]⟩
abbrev S512 : Shape := ⟨1, ![512]⟩
abbrev S512x1 : Shape := ⟨2, ![512, 1]⟩
abbrev S512x4096x1 : Shape := ⟨3, ![512, 4096, 1]⟩
abbrev S1x1x3 : Shape := ⟨3, ![1, 1, 3]⟩
abbrev S512x4096x3 : Shape := ⟨3, ![512, 4096, 3]⟩
abbrev S512x3 : Shape := ⟨2, ![512, 3]⟩
abbrev S4x1x1 : Shape := ⟨3, ![4, 1, 1]⟩
abbrev S512x1x3 : Shape := ⟨3, ![512, 1, 3]⟩
abbrev S1x3 : Shape := ⟨2, ![1, 3]⟩
abbrev S4x128x3 : Shape := ⟨3, ![4, 128, 3]⟩
abbrev S4 : Shape := ⟨1, ![4]⟩

abbrev nBuf : Space → Nat
  | .hbm => 132
  | .vmem => 0
  | .smem => 0
  | _ => 0

abbrev hbmTy0_0 (i : Nat) : BufTy := match i % 128 with
  | 0 => ⟨S512x4096, .f32⟩
  | 1 => ⟨S3, .f32⟩
  | 2 => ⟨S3, .f32⟩
  | 3 => ⟨S_, .f32⟩
  | 4 => ⟨S512, .f32⟩
  | 5 => ⟨S512x1, .f32⟩
  | 6 => ⟨S_, .f32⟩
  | 7 => ⟨S512, .f32⟩
  | 8 => ⟨S512x1, .f32⟩
  | 9 => ⟨S512x4096, .f32⟩
  | 10 => ⟨S512x4096, .f32⟩
  | 11 => ⟨S512x1, .f32⟩
  | 12 => ⟨S_, .f32⟩
  | 13 => ⟨S512x1, .f32⟩
  | 14 => ⟨S512x1, .f32⟩
  | 15 => ⟨S512x4096, .f32⟩
  | 16 => ⟨S512x4096, .f32⟩
  | 17 => ⟨S512x4096x1, .f32⟩
  | 18 => ⟨S1x1x3, .f32⟩
  | 19 => ⟨S512x4096x3, .f32⟩
  | 20 => ⟨S512x4096x3, .f32⟩
  | 21 => ⟨S512x4096x3, .f32⟩
  | 22 => ⟨S512x4096x3, .f32⟩
  | 23 => ⟨S_, .f32⟩
  | 24 => ⟨S_, .f32⟩
  | 25 => ⟨S_, .f32⟩
  | 26 => ⟨S512x4096x3, .f32⟩
  | 27 => ⟨S512x4096x3, .f32⟩
  | 28 => ⟨S512x4096x3, .f32⟩
  | 29 => ⟨S_, .f32⟩
  | 30 => ⟨S_, .f32⟩
  | 31 => ⟨S_, .f32⟩
  | 32 => ⟨S3, .f32⟩
  | 33 => ⟨S_, .f32⟩
  | 34 => ⟨S512x4096, .f32⟩
  | 35 => ⟨S_, .f32⟩
  | 36 => ⟨S512x3, .f32⟩
  | 37 => ⟨S_, .f32⟩
  | 38 => ⟨S4x1x1, .f32⟩
  | 39 => ⟨S_, .i32⟩
  | 40 => ⟨S512x4096x3, .f32⟩
  | 41 => ⟨S_, .f32⟩
  | 42 => ⟨S3, .f32⟩
  | 43 => ⟨S_, .i32⟩
  | 44 => ⟨S512x4096, .f32⟩
  | 45 => ⟨S512x3, .f32⟩
  | 46 => ⟨S4x1x1, .f32⟩
  | 47 => ⟨S_, .i32⟩
  | 48 => ⟨S_, .i1⟩
  | 49 => ⟨S512x1x3, .f32⟩
  | 50 => ⟨S512x4096x3, .f32⟩
  | 51 => ⟨S512x4096x3, .f32⟩
  | 52 => ⟨S_, .f32⟩
  | 53 => ⟨S512x4096, .f32⟩
  | 54 => ⟨S512x4096x1, .f32⟩
  | 55 => ⟨S512x4096x3, .f32⟩
  | 56 => ⟨S512x4096x3, .f32⟩
  | 57 => ⟨S512x4096x3, .f32⟩
  | 58 => ⟨S_, .f32⟩
  | 59 => ⟨S512x4096, .f32⟩
  | 60 => ⟨S512x4096, .f32⟩
  | 61 => ⟨S512x4096, .f32⟩
  | 62 => ⟨S512x4096, .f32⟩
  | 63 => ⟨S512x4096, .f32⟩
  | 64 => ⟨S512x4096x1, .f32⟩
  | 65 => ⟨S512x4096x3, .f32⟩
  | 66 => ⟨S512x4096x3, .f32⟩
  | 67 => ⟨S_, .f32⟩
  | 68 => ⟨S512x3, .f32⟩
  | 69 => ⟨S512x1x3, .f32⟩
  | 70 => ⟨S512x4096x3, .f32⟩
  | 71 => ⟨S512x4096x3, .f32⟩
  | 72 => ⟨S512x4096x3, .f32⟩
  | 73 => ⟨S_, .f32⟩
  | 74 => ⟨S512x3, .f32⟩
  | 75 => ⟨S512x3, .f32⟩
  | 76 => ⟨S512x3, .f32⟩
  | 77 => ⟨S1x3, .f32⟩
  | 78 => ⟨S512x3, .f32⟩
  | 79 => ⟨S512x3, .f32⟩
  | 80 => ⟨S512x3, .f32⟩
  | 81 => ⟨S4x128x3, .f32⟩
  | 82 => ⟨S512x3, .f32⟩
  | 83 => ⟨S4x128x3, .f32⟩
  | 84 => ⟨S4x128x3, .f32⟩
  | 85 => ⟨S4x128x3, .f32⟩
  | 86 => ⟨S_, .f32⟩
  | 87 => ⟨S4x128x3, .f32⟩
  | 88 => ⟨S4x128x3, .f32⟩
  | 89 => ⟨S4x128x3, .f32⟩
  | 90 => ⟨S_, .f32⟩
  | 91 => ⟨S4, .f32⟩
  | 92 => ⟨S4x1x1, .f32⟩
  | 93 => ⟨S_, .f32⟩
  | 94 => ⟨S4x1x1, .f32⟩
  | 95 => ⟨S4x1x1, .i1⟩
  | 96 => ⟨S4x128x3, .f32⟩
  | 97 => ⟨S4x128x3, .f32⟩
  | 98 => ⟨S4x128x3, .i1⟩
  | 99 => ⟨S4x128x3, .f32⟩
  | 100 => ⟨S512x3, .f32⟩
  | 101 => ⟨S_, .f32⟩
  | 102 => ⟨S4x1x1, .f32⟩
  | 103 => ⟨S4x1x1, .i1⟩
  | 104 => ⟨S_, .f32⟩
  | 105 => ⟨S4x1x1, .f32⟩
  | 106 => ⟨S4x1x1, .i1⟩
  | 107 => ⟨S_, .f32⟩
  | 108 => ⟨S_, .f32⟩
  | 109 => ⟨S4x1x1, .f32⟩
  | 110 => ⟨S4x1x1, .f32⟩
  | 111 => ⟨S_, .f32⟩
  | 112 => ⟨S_, .f32⟩
  | 113 => ⟨S4x1x1, .f32⟩
  | 114 => ⟨S4x1x1, .f32⟩
  | 115 => ⟨S_, .i32⟩
  | 116 => ⟨S_, .i32⟩
  | 117 => ⟨S512x4096x1, .f32⟩
  | 118 => ⟨S512x4096x3, .f32⟩
  | 119 => ⟨S512x4096x3, .f32⟩
  | 120 => ⟨S512x1x3, .f32⟩
  | 121 => ⟨S512x4096x3, .f32⟩
  | 122 => ⟨S512x4096x3, .f32⟩
  | 123 => ⟨S512x4096x3, .f32⟩
  | 124 => ⟨S512x4096x1, .f32⟩
  | 125 => ⟨S512x4096, .f32⟩
  | 126 => ⟨S512x4096x1, .f32⟩
  | 127 => ⟨S512x4096, .f32⟩
  | _ => ⟨S512x4096, .f32⟩

abbrev hbmTy0_1 (i : Nat) : BufTy := match i % 128 with
  | 0 => ⟨S512x4096, .f32⟩
  | 1 => ⟨S_, .f32⟩
  | 2 => ⟨S512x4096, .f32⟩
  | 3 => ⟨S512x4096, .f32⟩
  | _ => ⟨S512x4096, .f32⟩

abbrev hbmTy (i : Nat) : BufTy := match i / 128 with
  | 0 => hbmTy0_0 i
  | 1 => hbmTy0_1 i
  | _ => ⟨S512x4096, .f32⟩

abbrev bufTy : (tb : Table) → Fin (tcTables nBuf tb) → BufTy
  | .hbm, ⟨i, _⟩ => hbmTy i
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_cst_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_6 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_7 : Ref sig .tc := ⟨.hbm, 33, rfl⟩
abbrev main_v24 : Ref sig .tc := ⟨.hbm, 34, rfl⟩
abbrev main_cst_8 : Ref sig .tc := ⟨.hbm, 35, rfl⟩
abbrev main_v25 : Ref sig .tc := ⟨.hbm, 36, rfl⟩
abbrev main_cst_9 : Ref sig .tc := ⟨.hbm, 37, rfl⟩
abbrev main_v26 : Ref sig .tc := ⟨.hbm, 38, rfl⟩
abbrev main_c : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev main_v27_3 : Ref sig .tc := ⟨.hbm, 43, rfl⟩
abbrev main_v27_4 : Ref sig .tc := ⟨.hbm, 44, rfl⟩
abbrev main_v27_5 : Ref sig .tc := ⟨.hbm, 45, rfl⟩
abbrev main_v27_6 : Ref sig .tc := ⟨.hbm, 46, rfl⟩
abbrev main_while0c_c_17 : Ref sig .tc := ⟨.hbm, 47, rfl⟩
abbrev main_while0c_v42 : Ref sig .tc := ⟨.hbm, 48, rfl⟩
abbrev main_while0b_v42 : Ref sig .tc := ⟨.hbm, 49, rfl⟩
abbrev main_while0b_v43 : Ref sig .tc := ⟨.hbm, 50, rfl⟩
abbrev main_while0b_v44 : Ref sig .tc := ⟨.hbm, 51, rfl⟩
abbrev main_while0b_cst_17 : Ref sig .tc := ⟨.hbm, 52, rfl⟩
abbrev main_while0b_v45 : Ref sig .tc := ⟨.hbm, 53, rfl⟩
abbrev main_while0b_v46 : Ref sig .tc := ⟨.hbm, 54, rfl⟩
abbrev main_while0b_v47 : Ref sig .tc := ⟨.hbm, 55, rfl⟩
abbrev main_while0b_v48 : Ref sig .tc := ⟨.hbm, 56, rfl⟩
abbrev main_while0b_v49 : Ref sig .tc := ⟨.hbm, 57, rfl⟩
abbrev main_while0b_cst_18 : Ref sig .tc := ⟨.hbm, 58, rfl⟩
abbrev main_while0b_v50 : Ref sig .tc := ⟨.hbm, 59, rfl⟩
abbrev main_while0b_v51 : Ref sig .tc := ⟨.hbm, 60, rfl⟩
abbrev main_while0b_v52 : Ref sig .tc := ⟨.hbm, 61, rfl⟩
abbrev main_while0b_v53 : Ref sig .tc := ⟨.hbm, 62, rfl⟩
abbrev main_while0b_v54 : Ref sig .tc := ⟨.hbm, 63, rfl⟩
abbrev main_while0b_v55 : Ref sig .tc := ⟨.hbm, 64, rfl⟩
abbrev main_while0b_v56 : Ref sig .tc := ⟨.hbm, 65, rfl⟩
abbrev main_while0b_v57 : Ref sig .tc := ⟨.hbm, 66, rfl⟩
abbrev main_while0b_cst_19 : Ref sig .tc := ⟨.hbm, 67, rfl⟩
abbrev main_while0b_v58 : Ref sig .tc := ⟨.hbm, 68, rfl⟩
abbrev main_while0b_v59 : Ref sig .tc := ⟨.hbm, 69, rfl⟩
abbrev main_while0b_v60 : Ref sig .tc := ⟨.hbm, 70, rfl⟩
abbrev main_while0b_v61 : Ref sig .tc := ⟨.hbm, 71, rfl⟩
abbrev main_while0b_v62 : Ref sig .tc := ⟨.hbm, 72, rfl⟩
abbrev main_while0b_cst_20 : Ref sig .tc := ⟨.hbm, 73, rfl⟩
abbrev main_while0b_v63 : Ref sig .tc := ⟨.hbm, 74, rfl⟩
abbrev main_while0b_v64 : Ref sig .tc := ⟨.hbm, 75, rfl⟩
abbrev main_while0b_v65 : Ref sig .tc := ⟨.hbm, 76, rfl⟩
abbrev main_while0b_v66 : Ref sig .tc := ⟨.hbm, 77, rfl⟩
abbrev main_while0b_v67 : Ref sig .tc := ⟨.hbm, 78, rfl⟩
abbrev main_while0b_v68 : Ref sig .tc := ⟨.hbm, 79, rfl⟩
abbrev main_while0b_v69 : Ref sig .tc := ⟨.hbm, 80, rfl⟩
abbrev main_while0b_v70 : Ref sig .tc := ⟨.hbm, 81, rfl⟩
abbrev main_while0b_v71 : Ref sig .tc := ⟨.hbm, 82, rfl⟩
abbrev main_while0b_v72 : Ref sig .tc := ⟨.hbm, 83, rfl⟩
abbrev main_while0b_v73 : Ref sig .tc := ⟨.hbm, 84, rfl⟩
abbrev main_while0b_v74 : Ref sig .tc := ⟨.hbm, 85, rfl⟩
abbrev main_while0b_cst_21 : Ref sig .tc := ⟨.hbm, 86, rfl⟩
abbrev main_while0b_v75 : Ref sig .tc := ⟨.hbm, 87, rfl⟩
abbrev main_while0b_v76 : Ref sig .tc := ⟨.hbm, 88, rfl⟩
abbrev main_while0b_v77 : Ref sig .tc := ⟨.hbm, 89, rfl⟩
abbrev main_while0b_cst_22 : Ref sig .tc := ⟨.hbm, 90, rfl⟩
abbrev main_while0b_v78 : Ref sig .tc := ⟨.hbm, 91, rfl⟩
abbrev main_while0b_v79 : Ref sig .tc := ⟨.hbm, 92, rfl⟩
abbrev main_while0b_cst_23 : Ref sig .tc := ⟨.hbm, 93, rfl⟩
abbrev main_while0b_v80 : Ref sig .tc := ⟨.hbm, 94, rfl⟩
abbrev main_while0b_v81 : Ref sig .tc := ⟨.hbm, 95, rfl⟩
abbrev main_while0b_v82 : Ref sig .tc := ⟨.hbm, 96, rfl⟩
abbrev main_while0b_v83 : Ref sig .tc := ⟨.hbm, 97, rfl⟩
abbrev main_while0b_call0_v0 : Ref sig .tc := ⟨.hbm, 98, rfl⟩
abbrev main_while0b_v84 : Ref sig .tc := ⟨.hbm, 99, rfl⟩
abbrev main_while0b_v85 : Ref sig .tc := ⟨.hbm, 100, rfl⟩
abbrev main_while0b_cst_24 : Ref sig .tc := ⟨.hbm, 101, rfl⟩
abbrev main_while0b_v86 : Ref sig .tc := ⟨.hbm, 102, rfl⟩
abbrev main_while0b_v87 : Ref sig .tc := ⟨.hbm, 103, rfl⟩
abbrev main_while0b_cst_25 : Ref sig .tc := ⟨.hbm, 104, rfl⟩
abbrev main_while0b_v88 : Ref sig .tc := ⟨.hbm, 105, rfl⟩
abbrev main_while0b_v89 : Ref sig .tc := ⟨.hbm, 106, rfl⟩
abbrev main_while0b_cst_26 : Ref sig .tc := ⟨.hbm, 107, rfl⟩
abbrev main_while0b_call1_v0 : Ref sig .tc := ⟨.hbm, 108, rfl⟩
abbrev main_while0b_call1_v1 : Ref sig .tc := ⟨.hbm, 109, rfl⟩
abbrev main_while0b_v90 : Ref sig .tc := ⟨.hbm, 110, rfl⟩
abbrev main_while0b_cst_27 : Ref sig .tc := ⟨.hbm, 111, rfl⟩
abbrev main_while0b_call2_v0 : Ref sig .tc := ⟨.hbm, 112, rfl⟩
abbrev main_while0b_call2_v1 : Ref sig .tc := ⟨.hbm, 113, rfl⟩
abbrev main_while0b_v91 : Ref sig .tc := ⟨.hbm, 114, rfl⟩
abbrev main_while0b_c_28 : Ref sig .tc := ⟨.hbm, 115, rfl⟩
abbrev main_while0b_v92 : Ref sig .tc := ⟨.hbm, 116, rfl⟩
abbrev main_v28 : Ref sig .tc := ⟨.hbm, 117, rfl⟩
abbrev main_v29 : Ref sig .tc := ⟨.hbm, 118, rfl⟩
abbrev main_v30 : Ref sig .tc := ⟨.hbm, 119, rfl⟩
abbrev main_v31 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_cst_10 : Ref sig .tc := ⟨.hbm, 129, rfl⟩
abbrev main_v40 : Ref sig .tc := ⟨.hbm, 130, rfl⟩
abbrev main_v41 : Ref sig .tc := ⟨.hbm, 131, rfl⟩

abbrev nD : Nat := 1
abbrev τ : Topo := Topo.v7x

variable {F : FTy → Type} [FloatOps F]

abbrev main_while0_count : Scf.Loop 32 := ⟨0#32, 200#32, 1#32⟩
-- ==== Proof.KI.Model.lean ====
/-
  What the kernel computes on one block of 128 rows, as plain vector operations over any scalar type: the row minima and
  maxima, the two exponential planes, one rescaling step, the stopping quantity, and the output block. The names follow
  the kernel's: `q0`, `q2` the planes, `a0 a1 a2` the scales of the three anchors.
-/
module

public import proofs.«01_k».proof.Proof.Gen.KernelIdeal

@[expose] public section

noncomputable section

namespace Cert.KernelIdeal.Stk

open Cert.KernelIdeal Cert.KernelIdeal.Gen
open Idealize.ShloMosaic Idealize.SL.Sem

/-- A block of 128 rows, a chunk of 256 of its columns, half a chunk, and one number per row. -/
abbrev VB (F : FTy → Type) := FVec F S128x4096 .f32
abbrev VC (F : FTy → Type) := FVec F S128x256 .f32
abbrev VH (F : FTy → Type) := FVec F S128x128 .f32
abbrev V1 (F : FTy → Type) := FVec F S128x1 .f32

variable {F : FTy → Type} [FloatOps F]

theorem inbChunk (k : Fin 16) : ∀ a, (![0, 256 * k.val] : Fin 2 → Nat) a + S128x256.size a ≤ S128x4096.size a := by
  revert k; decide

/-- The rectangle of chunk `k`. -/
abbrev rC (k : Fin 16) : Rect S128x4096 := Rect.unit (s := S128x4096) ![0, 256 * k.val] S128x256.size (inbChunk k)

/-- Chunk `k` of a block. -/
def chunk (x : VB F) (k : Fin 16) : Vec F S128x256 .f32 := fun y => x ((rC k).toLoadRect.idx y)

abbrev k32 (w : BitVec 32) : F .f32 := Scalar.ofBits .f32 w
abbrev kOne : F .f32 := Scalar.ofBits .f32 0x3F800000#32
abbrev kTop : F .f32 := Scalar.ofBits .f32 0x44000000#32
abbrev kAll : F .f32 := Scalar.ofBits .f32 0x45800000#32
abbrev kMid : F .f32 := Scalar.ofBits .f32 0x45400000#32
abbrev kTol : F .f32 := Scalar.ofBits .f32 0x360637BD#32

/-- The two halves of a chunk. -/
abbrev lo (p : VC F) : VH F := extractStridedSlice S128x128 ![0, 0] p slices_S128x256_o0_0_S128x128
abbrev hi (p : VC F) : VH F := extractStridedSlice S128x128 ![0, 128] p slices_S128x256_o0_128_S128x128

/-- One number per row, along a chunk. -/
abbrev along (v : V1 F) : VC F := broadcastTo S128x256 v broadcasts_S128x1_S128x256

/-- The running sum, half chunk by half chunk, of the first `n` of a family of chunks. -/
def acc (f : Fin 16 → VC F) : ℕ → VH F
  | 0 => broadcast S128x128 (k32 0x00000000#32)
  | n + 1 => addf (acc f n) (addf (lo (f (Fin.ofNat 16 n))) (hi (f (Fin.ofNat 16 n))))

/-- The sum of a row over all sixteen chunks. -/
def total (f : Fin 16 → VC F) : V1 F :=
  shapeCast S128x1 (multiReduction .add [1] S128 (acc f 16) 0x00000000#32 reduces_S128x128_S128 (.inl rfl) rfl) shapeCasts_S128_S128x1

/-- The running minimum of the chunks `0 … n`, -/
def accMin (x : VB F) : ℕ → VH F
  | 0 => minimumf (lo (chunk x 0)) (hi (chunk x 0))
  | n + 1 => minimumf (accMin x n) (minimumf (lo (chunk x (Fin.ofNat 16 (n + 1)))) (hi (chunk x (Fin.ofNat 16 (n + 1)))))

/-- and maximum. -/
def accMax (x : VB F) : ℕ → VH F
  | 0 => maximumf (lo (chunk x 0)) (hi (chunk x 0))
  | n + 1 => maximumf (accMax x n) (maximumf (lo (chunk x (Fin.ofNat 16 (n + 1)))) (hi (chunk x (Fin.ofNat 16 (n + 1)))))

/-- The minimum and the maximum of each row. -/
def rowMin (x : VB F) : V1 F :=
  shapeCast S128x1 (multiReduction .minimumf [1] S128 (accMin x 15) 0x7F800000#32 reduces_S128x128_S128 (.inl rfl) rfl) shapeCasts_S128_S128x1
def rowMax' (x : VB F) : FVec F S128 .f32 :=
  multiReduction .maximumf [1] S128 (accMax x 15) 0xFF800000#32 reduces_S128x128_S128 (.inl rfl) rfl
def rowMax (x : VB F) : V1 F := shapeCast S128x1 (rowMax' x) shapeCasts_S128_S128x1

/-- The slope and the two offsets of the exponents. -/
def slope (x : VB F) : V1 F :=
  divf (broadcast S128x1 (k32 0x41200000#32)) (addf (subf (rowMax x) (rowMin x)) (broadcast S128x1 (k32 0x2B8CBCCC#32)))
def off0 (x : VB F) : V1 F := addf (broadcast S128x1 (k32 0x40200000#32)) (mulf (rowMin x) (slope x))
def off2 (x : VB F) : V1 F := addf (broadcast S128x1 (k32 0x40F00000#32)) (mulf (rowMin x) (slope x))

/-- The two planes on one chunk `s` of scores. -/
def plane0 (g u0 : V1 F) (s : VC F) : VC F := exp (subf (along u0) (mulf s (along g)))
def plane2 (g u2 : V1 F) (s : VC F) : VC F := exp (subf (mulf s (along g)) (along u2))

/-- The kernel's reciprocal at the first step, where all three scales are one, and its product with the second plane. -/
def recip1 (p0 p2 : VC F) : VC F := divf (broadcast S128x256 kOne) (addf (addf (broadcast S128x256 kOne) p0) p2)

/-- The reciprocal at scales `a0 a1 a2`. -/
def recip (a0 a1 a2 : V1 F) (p0 p2 : VC F) : VC F :=
  divf (broadcast S128x256 kOne) (addf (addf (along a1) (mulf p0 (along a0))) (mulf p2 (along a2)))

/-- One number per row, along a block. -/
theorem broadcastsB : S128x1.Broadcasts S128x4096 := by decide
abbrev alongB (v : V1 F) : VB F := broadcastTo S128x4096 v broadcastsB

/-- The planes of a whole block. -/
def Q0 (x : VB F) : VB F := exp (subf (alongB (off0 x)) (mulf x (alongB (slope x))))
def Q2 (x : VB F) : VB F := exp (subf (mulf x (alongB (slope x))) (alongB (off2 x)))

/-- The two column sums at the first step, from the planes of each chunk, -/
def first1 (x : VB F) : V1 F := total fun k => recip1 (plane0 (slope x) (off0 x) (chunk x k)) (plane2 (slope x) (off2 x) (chunk x k))
def first2 (x : VB F) : V1 F := total fun k => mulf (plane2 (slope x) (off2 x) (chunk x k)) (recip1 (plane0 (slope x) (off0 x) (chunk x k)) (plane2 (slope x) (off2 x) (chunk x k)))

/-- and the scales after it. -/
def start0 (x : VB F) : V1 F :=
  divf (broadcast S128x1 (Scalar.mulf kTop kOne))
    (subf (subf (broadcast S128x1 kAll) (mulf (broadcast S128x1 kOne) (first1 x))) (mulf (broadcast S128x1 kOne) (first2 x)))
def start1 (x : VB F) : V1 F := divf (broadcast S128x1 kMid) (first1 x)
def start2 (x : VB F) : V1 F := divf (broadcast S128x1 kTop) (first2 x)

/-- The column sums at scales `a0 a1 a2`, -/
def sum1 (q0 q2 : VB F) (a0 a1 a2 : V1 F) : V1 F := total fun k => recip a0 a1 a2 (chunk q0 k) (chunk q2 k)
def sum2 (q0 q2 : VB F) (a0 a1 a2 : V1 F) : V1 F := total fun k => mulf (chunk q2 k) (recip a0 a1 a2 (chunk q0 k) (chunk q2 k))

/-- and the scales after the step. -/
def next0 (q0 q2 : VB F) (a0 a1 a2 : V1 F) : V1 F :=
  divf (mulf (broadcast S128x1 kTop) a0)
    (subf (subf (broadcast S128x1 kAll) (mulf a1 (sum1 q0 q2 a0 a1 a2))) (mulf a2 (sum2 q0 q2 a0 a1 a2)))
def next1 (q0 q2 : VB F) (a0 a1 a2 : V1 F) : V1 F := divf (broadcast S128x1 kMid) (sum1 q0 q2 a0 a1 a2)
def next2 (q0 q2 : VB F) (a0 a1 a2 : V1 F) : V1 F := divf (broadcast S128x1 kTop) (sum2 q0 q2 a0 a1 a2)

/-- How far a scale moved beyond its tolerance. -/
def beyond (a b : V1 F) : V1 F := subf (absf (subf b a)) (mulf (broadcast S128x1 kTol) a)

/-- The largest such distance over the three scales and the 128 rows. -/
def excess (a0 a1 a2 b0 b1 b2 : V1 F) : F .f32 :=
  extractAt ![0, 0, 0]
    (shapeCast S1x1x1
      (multiReduction .maximumf [1, 2] S1
        (shapeCast S1x128x1 (maximumf (maximumf (beyond a0 b0) (beyond a1 b1)) (beyond a2 b2)) shapeCasts_S128x1_S1x128x1)
        0xFF800000#32 reduces_S1x128x1_S1 (.inl rfl) rfl)
      shapeCasts_S1_S1x1x1)
    inpos_S1x1x1_p0_0_0

/-- What the loop carries beside its counter: the three scales and the excess of the last step. -/
structure Carry (F : FTy → Type) where
  a0 : FVec F S128x1 .f32
  a1 : FVec F S128x1 .f32
  a2 : FVec F S128x1 .f32
  d : F .f32

/-- One trip of the loop. -/
def trip (q0 q2 : VB F) (s : Carry F) : Carry F :=
  ⟨next0 q0 q2 s.a0 s.a1 s.a2, next1 q0 q2 s.a0 s.a1 s.a2, next2 q0 q2 s.a0 s.a1 s.a2,
    excess s.a0 s.a1 s.a2 (next0 q0 q2 s.a0 s.a1 s.a2) (next1 q0 q2 s.a0 s.a1 s.a2) (next2 q0 q2 s.a0 s.a1 s.a2)⟩

/-- The scales still move: the last excess is above zero. -/
def moves (d : F .f32) : Prop := Scalar.cmpf .ogt d (k32 0x00000000#32) = 1#1

open Classical in
/-- The loop with `k` trips left at most. -/
def loop (q0 q2 : VB F) : ℕ → Carry F → Carry F
  | 0, s => s
  | k + 1, s => if moves s.d then loop q0 q2 k (trip q0 q2 s) else s

/-- The loop's carried values at its entry, and at its end. -/
def enter (x : VB F) : Carry F := ⟨start0 x, start1 x, start2 x, kOne⟩
def done (x : VB F) : Carry F := loop (Q0 x) (Q2 x) 198 (enter x)

open Classical in
/-- The scales the output is read with: one more step if the loop ran out of trips while still moving. -/
def out0 (x : VB F) : V1 F := if moves (done x).d then next0 (Q0 x) (Q2 x) (done x).a0 (done x).a1 (done x).a2 else (done x).a0
open Classical in
def out2 (x : VB F) : V1 F := if moves (done x).d then next2 (Q0 x) (Q2 x) (done x).a0 (done x).a1 (done x).a2 else (done x).a2

/-- The output on one chunk, from the planes there. -/
def outC (a0 a1 a2 b0 b2 : V1 F) (p0 p2 : VC F) : VC F :=
  mulf (subf (mulf p2 (along b2)) (mulf p0 (along b0))) (recip a0 a1 a2 p0 p2)

/-- The output block. -/
def outB (a0 a1 a2 b0 b2 : V1 F) (q0 q2 : VB F) : VB F :=
  mulf (subf (mulf q2 (alongB b2)) (mulf q0 (alongB b0)))
    (divf (broadcast S128x4096 kOne)
      (addf (addf (alongB a1) (mulf q0 (alongB a0))) (mulf q2 (alongB a2))))
def result (x : VB F) : VB F := outB (done x).a0 (done x).a1 (done x).a2 (out0 x) (out2 x) (Q0 x) (Q2 x)

end Cert.KernelIdeal.Stk

end
-- ==== Proof.KI.PaysWhile.lean ====
/-
  The vectors one trip of the loop passes from part to part, and leaves, are the step's running sums and its new scales:
  each a restatement of the part's own arithmetic.
-/
module

public import proofs.«01_k».proof.Proof.KI.Model
public import proofs.«01_k».proof.Proof.Gen.KernelIdeal.Skeleton

@[expose] public section

set_option maxRecDepth 16384

noncomputable section

namespace Cert.KernelIdeal.Stk

open Cert.KernelIdeal Cert.KernelIdeal.Gen
open Idealize.ShloMosaic Idealize.SL.Sem

variable {F : FTy → Type} [FloatOps F]

/-- The reciprocal on chunk `k` and its product with the second plane. -/
def rc (q0 q2 : VB F) (a0 a1 a2 : V1 F) (k : Fin 16) : VC F := recip a0 a1 a2 (chunk q0 k) (chunk q2 k)
def qrc (q0 q2 : VB F) (a0 a1 a2 : V1 F) (k : Fin 16) : VC F := mulf (chunk q2 k) (rc q0 q2 a0 a1 a2 k)

variable (q0 q2 : VB F) (a0 a1 a2 : V1 F)

theorem w_a : k0_pay210 kOne a0 a1 a2 (chunk q0 0) (chunk q2 0) (chunk q0 1) (chunk q2 1) = acc (rc q0 q2 a0 a1 a2) 2 := rfl
theorem w_b : k0_pay211 kOne a0 a1 a2 (chunk q0 0) (chunk q2 0) (chunk q0 1) (chunk q2 1) = acc (qrc q0 q2 a0 a1 a2) 2 := rfl
theorem w_c : k0_pay215 kOne a0 a1 a2 (acc (qrc q0 q2 a0 a1 a2) 2) (chunk q2 2) (k0_pay212 a0 (chunk q0 2)) (chunk q0 3) (chunk q2 3) = acc (qrc q0 q2 a0 a1 a2) 4 := rfl
theorem w_d : k0_pay217 kOne a0 a1 a2 (acc (rc q0 q2 a0 a1 a2) 2) (chunk q2 2) (k0_pay212 a0 (chunk q0 2)) (chunk q0 3) (chunk q2 3) (chunk q0 4) (chunk q2 4) = acc (rc q0 q2 a0 a1 a2) 5 := rfl
theorem w_e : k0_pay218 kOne a0 a1 a2 (chunk q0 4) (chunk q2 4) = qrc q0 q2 a0 a1 a2 4 := rfl
theorem w_f : k0_pay221 kOne a0 a1 a2 (acc (rc q0 q2 a0 a1 a2) 5) (chunk q0 5) (chunk q2 5) (chunk q0 6) (chunk q2 6) = acc (rc q0 q2 a0 a1 a2) 7 := rfl
theorem w_g : k0_pay222 kOne a0 a1 a2 (acc (qrc q0 q2 a0 a1 a2) 4) (qrc q0 q2 a0 a1 a2 4) (chunk q0 5) (chunk q2 5) (chunk q0 6) (chunk q2 6) = acc (qrc q0 q2 a0 a1 a2) 7 := rfl
theorem w_h : k0_pay226 kOne a0 a1 a2 (acc (qrc q0 q2 a0 a1 a2) 7) (chunk q2 7) (k0_pay223 a0 (chunk q0 7)) (chunk q0 8) (chunk q2 8) = acc (qrc q0 q2 a0 a1 a2) 9 := rfl
theorem w_i : k0_pay228 kOne a0 a1 a2 (acc (rc q0 q2 a0 a1 a2) 7) (chunk q2 7) (k0_pay223 a0 (chunk q0 7)) (chunk q0 8) (chunk q2 8) (chunk q0 9) (chunk q2 9) = acc (rc q0 q2 a0 a1 a2) 10 := rfl
theorem w_j : k0_pay229 kOne a0 a1 a2 (chunk q0 9) (chunk q2 9) = qrc q0 q2 a0 a1 a2 9 := rfl
theorem w_k : k0_pay232 kOne a0 a1 a2 (acc (rc q0 q2 a0 a1 a2) 10) (chunk q0 10) (chunk q2 10) (chunk q0 11) (chunk q2 11) = acc (rc q0 q2 a0 a1 a2) 12 := rfl
theorem w_l : k0_pay233 kOne a0 a1 a2 (acc (qrc q0 q2 a0 a1 a2) 9) (qrc q0 q2 a0 a1 a2 9) (chunk q0 10) (chunk q2 10) (chunk q0 11) (chunk q2 11) = acc (qrc q0 q2 a0 a1 a2) 12 := rfl
theorem w_m : k0_pay237 kOne a0 a1 a2 (acc (qrc q0 q2 a0 a1 a2) 12) (chunk q2 12) (k0_pay234 a0 (chunk q0 12)) (chunk q0 13) (chunk q2 13) = acc (qrc q0 q2 a0 a1 a2) 14 := rfl
theorem w_n : k0_pay239 kOne a0 a1 a2 (acc (rc q0 q2 a0 a1 a2) 12) (chunk q2 12) (k0_pay234 a0 (chunk q0 12)) (chunk q0 13) (chunk q2 13) (chunk q0 14) (chunk q2 14) = acc (rc q0 q2 a0 a1 a2) 15 := rfl
theorem w_o : k0_pay240 kOne a0 a1 a2 (chunk q0 14) (chunk q2 14) = qrc q0 q2 a0 a1 a2 14 := rfl
theorem w_p : k0_pay244 kOne kTop kAll a0 a1 a2 (acc (qrc q0 q2 a0 a1 a2) 14) (acc (rc q0 q2 a0 a1 a2) 15) (qrc q0 q2 a0 a1 a2 14) (chunk q0 15) (chunk q2 15) = next0 q0 q2 a0 a1 a2 := rfl
theorem w_q : k0_pay245 kOne kMid a0 a1 a2 (acc (rc q0 q2 a0 a1 a2) 15) (chunk q0 15) (chunk q2 15) = next1 q0 q2 a0 a1 a2 := rfl
theorem w_r : k0_pay246 kOne kTop a0 a1 a2 (acc (qrc q0 q2 a0 a1 a2) 14) (qrc q0 q2 a0 a1 a2 14) (chunk q0 15) (chunk q2 15) = next2 q0 q2 a0 a1 a2 := rfl
theorem w_s : k0_pay247 kOne kTop kAll kMid kTol a0 a1 a2 (acc (qrc q0 q2 a0 a1 a2) 14) (acc (rc q0 q2 a0 a1 a2) 15) (qrc q0 q2 a0 a1 a2 14) (chunk q0 15) (chunk q2 15)
    = maximumf (beyond a0 (next0 q0 q2 a0 a1 a2)) (beyond a1 (next1 q0 q2 a0 a1 a2)) := rfl
theorem w_t : k0_pay248 kOne kTop a0 a1 a2 (acc (qrc q0 q2 a0 a1 a2) 14) (qrc q0 q2 a0 a1 a2 14) (chunk q0 15) (chunk q2 15)
    = absf (subf (next2 q0 q2 a0 a1 a2) a2) := rfl
theorem w_u (b0 b1 b2 : V1 F) : k0_pay2 a2 (maximumf (beyond a0 b0) (beyond a1 b1)) (absf (subf b2 a2)) (k0_pay249 kTol) = excess a0 a1 a2 b0 b1 b2 := rfl

end Cert.KernelIdeal.Stk

end
-- ==== Proof.KI.While.lean ====
/-
  The kernel's loop, answered by a specification over the trips still allowed: holding the two planes' buffers it returns
  some counter and the scales and excess `loop` computes. The label's body meets it by induction on the trips allowed:
  with none left, or with the scales at rest, the test fails and the carried values come back; else one step is read off
  the planes and the label's own call is answered by the induction hypothesis.
-/
module

public import proofs.«01_k».proof.Proof.KI.PaysWhile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Stk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Calls are bounded by the trips they are still allowed. -/
abbrev 𝒱₀ : Variants := Variants.nat

/-! ## The counter -/

theorem counter_full (a : BitVec 1) : Scalar.andi (Scalar.cmpi .slt (BitVec.ofNat 32 (199 - 0)) 199#32) a ≠ 1#1 := by revert a; decide

theorem counter_test (a : BitVec 1) (k : ℕ) (hk : k + 1 ≤ 198) :
    Scalar.andi (Scalar.cmpi .slt (BitVec.ofNat 32 (199 - (k + 1))) 199#32) a = a := by
  have h : ∀ k < 198, Scalar.cmpi .slt (BitVec.ofNat 32 (199 - (k + 1))) 199#32 = 1#1 := by decide
  rw [h k (by omega)]; revert a; decide

theorem counter_step (k : ℕ) (hk : k + 1 ≤ 198) : Scalar.addi (BitVec.ofNat 32 (199 - (k + 1))) 1#32 = BitVec.ofNat 32 (199 - k) := by
  have h : ∀ k < 198, Scalar.addi (BitVec.ofNat 32 (199 - (k + 1))) 1#32 = BitVec.ofNat 32 (199 - k) := by decide
  exact h k (by omega)

/-! ## A chunk read through a whole buffer -/

section Read

variable (v : View sig .tc .vmem S128x4096 .f32) (x : VB F)

theorem rdc (k : Fin 16) : v.readAt (Elt F) (rC k).toLoadRect (v.rep (x : S128x4096.Idx → Elt F .f32)) = chunk x k := View.readAt_rep v _ _
theorem rd0 : v.readAt (Elt F) (Rect.unit (s := S128x4096) ![0, 0] S128x256.size inb_S128x4096_S128x256_0_0).toLoadRect (v.rep x) = chunk x 0 := rdc v x 0
theorem rd1 : v.readAt (Elt F) (Rect.unit (s := S128x4096) ![0, 256] S128x256.size inb_S128x4096_S128x256_0_256).toLoadRect (v.rep x) = chunk x 1 := rdc v x 1
theorem rd2 : v.readAt (Elt F) (Rect.unit (s := S128x4096) ![0, 512] S128x256.size inb_S128x4096_S128x256_0_512).toLoadRect (v.rep x) = chunk x 2 := rdc v x 2
theorem rd3 : v.readAt (Elt F) (Rect.unit (s := S128x4096) ![0, 768] S128x256.size inb_S128x4096_S128x256_0_768).toLoadRect (v.rep x) = chunk x 3 := rdc v x 3
theorem rd4 : v.readAt (Elt F) (Rect.unit (s := S128x4096) ![0, 1024] S128x256.size inb_S128x4096_S128x256_0_1024).toLoadRect (v.rep x) = chunk x 4 := rdc v x 4
theorem rd5 : v.readAt (Elt F) (Rect.unit (s := S128x4096) ![0, 1280] S128x256.size inb_S128x4096_S128x256_0_1280).toLoadRect (v.rep x) = chunk x 5 := rdc v x 5
theorem rd6 : v.readAt (Elt F) (Rect.unit (s := S128x4096) ![0, 1536] S128x256.size inb_S128x4096_S128x256_0_1536).toLoadRect (v.rep x) = chunk x 6 := rdc v x 6
theorem rd7 : v.readAt (Elt F) (Rect.unit (s := S128x4096) ![0, 1792] S128x256.size inb_S128x4096_S128x256_0_1792).toLoadRect (v.rep x) = chunk x 7 := rdc v x 7
theorem rd8 : v.readAt (Elt F) (Rect.unit (s := S128x4096) ![0, 2048] S128x256.size inb_S128x4096_S128x256_0_2048).toLoadRect (v.rep x) = chunk x 8 := rdc v x 8
theorem rd9 : v.readAt (Elt F) (Rect.unit (s := S128x4096) ![0, 2304] S128x256.size inb_S128x4096_S128x256_0_2304).toLoadRect (v.rep x) = chunk x 9 := rdc v x 9
theorem rd10 : v.readAt (Elt F) (Rect.unit (s := S128x4096) ![0, 2560] S128x256.size inb_S128x4096_S128x256_0_2560).toLoadRect (v.rep x) = chunk x 10 := rdc v x 10
theorem rd11 : v.readAt (Elt F) (Rect.unit (s := S128x4096) ![0, 2816] S128x256.size inb_S128x4096_S128x256_0_2816).toLoadRect (v.rep x) = chunk x 11 := rdc v x 11
theorem rd12 : v.readAt (Elt F) (Rect.unit (s := S128x4096) ![0, 3072] S128x256.size inb_S128x4096_S128x256_0_3072).toLoadRect (v.rep x) = chunk x 12 := rdc v x 12
theorem rd13 : v.readAt (Elt F) (Rect.unit (s := S128x4096) ![0, 3328] S128x256.size inb_S128x4096_S128x256_0_3328).toLoadRect (v.rep x) = chunk x 13 := rdc v x 13
theorem rd14 : v.readAt (Elt F) (Rect.unit (s := S128x4096) ![0, 3584] S128x256.size inb_S128x4096_S128x256_0_3584).toLoadRect (v.rep x) = chunk x 14 := rdc v x 14
theorem rd15 : v.readAt (Elt F) (Rect.unit (s := S128x4096) ![0, 3840] S128x256.size inb_S128x4096_S128x256_0_3840).toLoadRect (v.rep x) = chunk x 15 := rdc v x 15

end Read

/-! ## The loop -/

section Label

variable (c : Dev nD) (i : grid0.Coords) (arg3 : Memref sig .tc .vmem S128x4096 .f32) (harg3 : arg3.IsWhole)
  (arg4 : Memref sig .tc .vmem S128x4096 .f32) (harg4 : arg4.IsWhole) (q0 q2 : VB F)

/-- The two planes' buffers, held at the planes. -/
def held : sProp 𝕄 :=
  iprop((arg3.view.loc (c : Thread nD τ) ↦[arg3.view.set]{fullShare} arg3.view.rep q0)
    ∗ (arg4.view.loc (c : Thread nD τ) ↦[arg4.view.set]{fullShare} arg4.view.rep q2))

/-- With `k` trips allowed from `s`: the buffers come back as they were, with the loop's scales and excess. -/
def spec (k : ℕ) (s : Carry F) : sWPT 𝕄 (BitVec 32 × FVec F S128x1 .f32 × FVec F S128x1 .f32 × FVec F S128x1 .f32 × F .f32) := do
  sWPT.consume (held c arg3 arg4 q0 q2)
  let n ← sWPT.arbitrary
  sWPT.produce (held c arg3 arg4 q0 q2)
  pure (n, (loop q0 q2 k s).a0, (loop q0 q2 k s).a1, (loop q0 q2 k s).a2, (loop q0 q2 k s).d)

theorem spec_apply (k : ℕ) (s : Carry F) (K : BitVec 32 × FVec F S128x1 .f32 × FVec F S128x1 .f32 × FVec F S128x1 .f32 × F .f32 → sProp 𝕄) :
    spec c arg3 arg4 q0 q2 k s K
      = iprop(held c arg3 arg4 q0 q2 ∗ ∀ n : BitVec 32, (held c arg3 arg4 q0 q2
          -∗ K (n, (loop q0 q2 k s).a0, (loop q0 q2 k s).a1, (loop q0 q2 k s).a2, (loop q0 q2 k s).d))) := rfl

variable (bd : Option 𝒱₀.V) (E : Set ℕ) (n : BitVec 32) (a0 a1 a2 : V1 F) (d : F .f32)

theorem part30_wp (K) :
    held c arg3 arg4 q0 q2 ∗ (held c arg3 arg4 q0 q2 -∗ K ⟨acc (rc q0 q2 a0 a1 a2) 2, acc (qrc q0 q2 a0 a1 a2) 2, chunk q2 2, k0_pay212 a0 (chunk q0 2)⟩)
      ⊢ wp frame (wpE (defs₀ (F := F)) 𝒱₀ (c : Thread nD τ) bd) E
          (k0_part30 i arg3 harg3 arg4 harg4 kOne kTop kAll kMid kTop kTol n a0 a1 a2 d) K := by
  simp only [k0_part30_eq_skeleton]; unfold k0_part30_skel held
  iintro ⟨⟨Hx, Hw⟩, Hk⟩
  sl_exec
  rw [wp_ret, rd0 arg3.view q0, rd0 arg4.view q2, rd1 arg3.view q0, rd1 arg4.view q2, rd2 arg3.view q0, rd2 arg4.view q2, w_a, w_b]
  imodintro
  iapply Hk
  isplitl [Hx]; · iexact Hx
  iexact Hw

theorem part31_wp (K) :
    held c arg3 arg4 q0 q2 ∗ (held c arg3 arg4 q0 q2 -∗ K ⟨acc (qrc q0 q2 a0 a1 a2) 4, acc (rc q0 q2 a0 a1 a2) 5, qrc q0 q2 a0 a1 a2 4⟩)
      ⊢ wp frame (wpE (defs₀ (F := F)) 𝒱₀ (c : Thread nD τ) bd) E
          (k0_part31 i arg3 harg3 arg4 harg4 kOne kTop kAll kMid kTop kTol n a0 a1 a2 d (acc (rc q0 q2 a0 a1 a2) 2) (acc (qrc q0 q2 a0 a1 a2) 2) (chunk q2 2) (k0_pay212 a0 (chunk q0 2))) K := by
  simp only [k0_part31_eq_skeleton]; unfold k0_part31_skel held
  iintro ⟨⟨Hx, Hw⟩, Hk⟩
  sl_exec
  rw [wp_ret, rd3 arg3.view q0, rd3 arg4.view q2, rd4 arg3.view q0, rd4 arg4.view q2, w_c, w_d, w_e]
  imodintro
  iapply Hk
  isplitl [Hx]; · iexact Hx
  iexact Hw

theorem part32_wp (K) :
    held c arg3 arg4 q0 q2 ∗ (held c arg3 arg4 q0 q2 -∗ K ⟨acc (rc q0 q2 a0 a1 a2) 7, acc (qrc q0 q2 a0 a1 a2) 7, chunk q2 7, k0_pay223 a0 (chunk q0 7)⟩)
      ⊢ wp frame (wpE (defs₀ (F := F)) 𝒱₀ (c : Thread nD τ) bd) E
          (k0_part32 i arg3 harg3 arg4 harg4 kOne kTop kAll kMid kTop kTol n a0 a1 a2 d (acc (qrc q0 q2 a0 a1 a2) 4) (acc (rc q0 q2 a0 a1 a2) 5) (qrc q0 q2 a0 a1 a2 4)) K := by
  simp only [k0_part32_eq_skeleton]; unfold k0_part32_skel held
  iintro ⟨⟨Hx, Hw⟩, Hk⟩
  sl_exec
  rw [wp_ret, rd5 arg3.view q0, rd5 arg4.view q2, rd6 arg3.view q0, rd6 arg4.view q2, rd7 arg3.view q0, rd7 arg4.view q2, w_f, w_g]
  imodintro
  iapply Hk
  isplitl [Hx]; · iexact Hx
  iexact Hw

theorem part33_wp (K) :
    held c arg3 arg4 q0 q2 ∗ (held c arg3 arg4 q0 q2 -∗ K ⟨acc (qrc q0 q2 a0 a1 a2) 9, acc (rc q0 q2 a0 a1 a2) 10, qrc q0 q2 a0 a1 a2 9⟩)
      ⊢ wp frame (wpE (defs₀ (F := F)) 𝒱₀ (c : Thread nD τ) bd) E
          (k0_part33 i arg3 harg3 arg4 harg4 kOne kTop kAll kMid kTop kTol n a0 a1 a2 d (acc (rc q0 q2 a0 a1 a2) 7) (acc (qrc q0 q2 a0 a1 a2) 7) (chunk q2 7) (k0_pay223 a0 (chunk q0 7))) K := by
  simp only [k0_part33_eq_skeleton]; unfold k0_part33_skel held
  iintro ⟨⟨Hx, Hw⟩, Hk⟩
  sl_exec
  rw [wp_ret, rd8 arg3.view q0, rd8 arg4.view q2, rd9 arg3.view q0, rd9 arg4.view q2, w_h, w_i, w_j]
  imodintro
  iapply Hk
  isplitl [Hx]; · iexact Hx
  iexact Hw

theorem part34_wp (K) :
    held c arg3 arg4 q0 q2 ∗ (held c arg3 arg4 q0 q2 -∗ K ⟨acc (rc q0 q2 a0 a1 a2) 12, acc (qrc q0 q2 a0 a1 a2) 12, chunk q2 12, k0_pay234 a0 (chunk q0 12)⟩)
      ⊢ wp frame (wpE (defs₀ (F := F)) 𝒱₀ (c : Thread nD τ) bd) E
          (k0_part34 i arg3 harg3 arg4 harg4 kOne kTop kAll kMid kTop kTol n a0 a1 a2 d (acc (qrc q0 q2 a0 a1 a2) 9) (acc (rc q0 q2 a0 a1 a2) 10) (qrc q0 q2 a0 a1 a2 9)) K := by
  simp only [k0_part34_eq_skeleton]; unfold k0_part34_skel held
  iintro ⟨⟨Hx, Hw⟩, Hk⟩
  sl_exec
  rw [wp_ret, rd10 arg3.view q0, rd10 arg4.view q2, rd11 arg3.view q0, rd11 arg4.view q2, rd12 arg3.view q0, rd12 arg4.view q2, w_k, w_l]
  imodintro
  iapply Hk
  isplitl [Hx]; · iexact Hx
  iexact Hw

theorem part35_wp (K) :
    held c arg3 arg4 q0 q2 ∗ (held c arg3 arg4 q0 q2 -∗ K ⟨acc (qrc q0 q2 a0 a1 a2) 14, acc (rc q0 q2 a0 a1 a2) 15, qrc q0 q2 a0 a1 a2 14⟩)
      ⊢ wp frame (wpE (defs₀ (F := F)) 𝒱₀ (c : Thread nD τ) bd) E
          (k0_part35 i arg3 harg3 arg4 harg4 kOne kTop kAll kMid kTop kTol n a0 a1 a2 d (acc (rc q0 q2 a0 a1 a2) 12) (acc (qrc q0 q2 a0 a1 a2) 12) (chunk q2 12) (k0_pay234 a0 (chunk q0 12))) K := by
  simp only [k0_part35_eq_skeleton]; unfold k0_part35_skel held
  iintro ⟨⟨Hx, Hw⟩, Hk⟩
  sl_exec
  rw [wp_ret, rd13 arg3.view q0, rd13 arg4.view q2, rd14 arg3.view q0, rd14 arg4.view q2, w_m, w_n, w_o]
  imodintro
  iapply Hk
  isplitl [Hx]; · iexact Hx
  iexact Hw

theorem part36_wp (K) :
    held c arg3 arg4 q0 q2 ∗ (held c arg3 arg4 q0 q2 -∗ K ⟨next0 q0 q2 a0 a1 a2, next1 q0 q2 a0 a1 a2, next2 q0 q2 a0 a1 a2,
        maximumf (beyond a0 (next0 q0 q2 a0 a1 a2)) (beyond a1 (next1 q0 q2 a0 a1 a2)), absf (subf (next2 q0 q2 a0 a1 a2) a2), k0_pay249 kTol⟩)
      ⊢ wp frame (wpE (defs₀ (F := F)) 𝒱₀ (c : Thread nD τ) bd) E
          (k0_part36 i arg3 harg3 arg4 harg4 kOne kTop kAll kMid kTop kTol n a0 a1 a2 d (acc (qrc q0 q2 a0 a1 a2) 14) (acc (rc q0 q2 a0 a1 a2) 15) (qrc q0 q2 a0 a1 a2 14)) K := by
  simp only [k0_part36_eq_skeleton]; unfold k0_part36_skel held
  iintro ⟨⟨Hx, Hw⟩, Hk⟩
  sl_exec
  rw [wp_ret, rd15 arg3.view q0, rd15 arg4.view q2, w_p, w_q, w_r, w_s, w_t]
  imodintro
  iapply Hk
  isplitl [Hx]; · iexact Hx
  iexact Hw

set_option maxHeartbeats 4000000 in
theorem spec_le  :
    ∀ k, k ≤ 198 → ∀ (s : Carry F) K, spec c arg3 arg4 q0 q2 k s K
      ⊢ wp frame (wpE (defs₀ (F := F)) 𝒱₀ (c : Thread nD τ) (some k)) E
          (defs₀ (F := F) .tc 1 ⟨i, arg3, harg3, arg4, harg4, kOne, kTop, kAll, kMid, kTop, kTol, BitVec.ofNat 32 (199 - k), s.a0, s.a1, s.a2, s.d⟩) K := by
  intro k
  induction k with
  | zero =>
    intro hk s K
    rw [spec_apply]
    show _ ⊢ wp frame (wpE (defs₀ (F := F)) 𝒱₀ (c : Thread nD τ) (some 0)) E
      (cc0_while1 i arg3 harg3 arg4 harg4 kOne kTop kAll kMid kTop kTol (BitVec.ofNat 32 (199 - 0)) s.a0 s.a1 s.a2 s.d) K
    simp only [cc0_while1_eq_skeleton]; unfold cc0_while1_skel
    simp only [counter_full, ↓reduceIte, Prog.pure_eq_ret]
    iintro ⟨H, Hk⟩
    rw [wp_ret]; imodintro
    ihave Hk := Hk $$ %(BitVec.ofNat 32 (199 - 0))
    simp only [loop]
    iapply Hk
    iexact H
  | succ k ih =>
    intro hk s K
    rw [spec_apply]
    show _ ⊢ wp frame (wpE (defs₀ (F := F)) 𝒱₀ (c : Thread nD τ) (some (k + 1))) E
      (cc0_while1 i arg3 harg3 arg4 harg4 kOne kTop kAll kMid kTop kTol (BitVec.ofNat 32 (199 - (k + 1))) s.a0 s.a1 s.a2 s.d) K
    simp only [cc0_while1_eq_skeleton]; unfold cc0_while1_skel
    simp only [counter_test _ k hk, counter_step k hk]
    by_cases hm : moves s.d
    · have hl : loop q0 q2 (k + 1) s = loop q0 q2 k (trip q0 q2 s) := by rw [loop, if_pos hm]
      unfold moves k32 at hm
      rw [hl]
      simp only [hm, ↓reduceIte, wp_bind]
      iintro ⟨Hh, Hk⟩
      iapply (part30_wp c i arg3 harg3 arg4 harg4 q0 q2 (some (k + 1)) E _ s.a0 s.a1 s.a2 s.d)
      isplitl [Hh]; · iexact Hh
      iintro Hh
      iapply (part31_wp c i arg3 harg3 arg4 harg4 q0 q2 (some (k + 1)) E _ s.a0 s.a1 s.a2 s.d)
      isplitl [Hh]; · iexact Hh
      iintro Hh
      iapply (part32_wp c i arg3 harg3 arg4 harg4 q0 q2 (some (k + 1)) E _ s.a0 s.a1 s.a2 s.d)
      isplitl [Hh]; · iexact Hh
      iintro Hh
      iapply (part33_wp c i arg3 harg3 arg4 harg4 q0 q2 (some (k + 1)) E _ s.a0 s.a1 s.a2 s.d)
      isplitl [Hh]; · iexact Hh
      iintro Hh
      iapply (part34_wp c i arg3 harg3 arg4 harg4 q0 q2 (some (k + 1)) E _ s.a0 s.a1 s.a2 s.d)
      isplitl [Hh]; · iexact Hh
      iintro Hh
      iapply (part35_wp c i arg3 harg3 arg4 harg4 q0 q2 (some (k + 1)) E _ s.a0 s.a1 s.a2 s.d)
      isplitl [Hh]; · iexact Hh
      iintro Hh
      iapply (part36_wp c i arg3 harg3 arg4 harg4 q0 q2 (some (k + 1)) E _ s.a0 s.a1 s.a2 s.d)
      isplitl [Hh]; · iexact Hh
      iintro Hh
      rw [w_u]
      iapply (wp_call_spec 𝒱₀ (c : Thread nD τ) (some (k + 1)) E (spec c arg3 arg4 q0 q2 k (trip q0 q2 s)) k
        (fun u hu => by cases hu; exact Nat.lt_succ_self k) (ih (by omega) (trip q0 q2 s)))
      rw [spec_apply]
      isplitl [Hh]; · iexact Hh
      iintro %n Hh
      rw [wp_ret]; imodintro
      iapply Hk
      iexact Hh
    · have hl : loop q0 q2 (k + 1) s = s := by rw [loop, if_neg hm]
      unfold moves k32 at hm
      rw [hl]
      simp only [hm, ↓reduceIte, Prog.pure_eq_ret]
      iintro ⟨H, Hk⟩
      rw [wp_ret]; imodintro
      ihave Hk := Hk $$ %(BitVec.ofNat 32 (199 - (k + 1)))
      iapply Hk
      iexact H

end Label

end Cert.KernelIdeal.Stk

end
-- ==== Proof.KI.PaysBody.lean ====
/-
  The vectors the kernel's straight-line parts pass on and store are the block's running minima and maxima, planes, sums
  and output chunks: each a restatement of the part's own arithmetic.
-/
module

public import proofs.«01_k».proof.Proof.KI.PaysWhile

@[expose] public section

set_option maxRecDepth 16384

noncomputable section

namespace Cert.KernelIdeal.Stk

open Cert.KernelIdeal Cert.KernelIdeal.Gen
open Idealize.ShloMosaic Idealize.SL.Sem

variable {F : FTy → Type} [FloatOps F]

/-- The two planes of chunk `k`, the first step's reciprocal there, and its product with the second plane. -/
def p0 (x : VB F) (k : Fin 16) : VC F := plane0 (slope x) (off0 x) (chunk x k)
def p2 (x : VB F) (k : Fin 16) : VC F := plane2 (slope x) (off2 x) (chunk x k)
def rf (x : VB F) (k : Fin 16) : VC F := recip1 (p0 x k) (p2 x k)
def qrf (x : VB F) (k : Fin 16) : VC F := mulf (p2 x k) (rf x k)

/-- A chunk and a column, as the stores spell them. -/
abbrev st (p : VC F) : Vec F S128x256 .f32 := shapeCast S128x256 p shapeCasts_S128x256_S128x256
abbrev st1 (a : V1 F) : Vec F S128x1 .f32 := shapeCast S128x1 a shapeCasts_S128x1_S128x1

variable (x q0 q2 : VB F) (a0 a1 a2 b0 b2 : V1 F)

theorem pb1 : k0_pay40 (chunk x 0) (chunk x 1) (chunk x 2) (chunk x 3) (chunk x 4) = accMin x 4 := rfl
theorem pb2 : k0_pay41 (chunk x 0) (chunk x 1) (chunk x 2) (chunk x 3) (chunk x 4) = accMax x 4 := rfl
theorem pb3 : k0_pay43 (accMin x 4) (k0_pay42 (chunk x 5)) (chunk x 6) (chunk x 7) (chunk x 8) (chunk x 9) (chunk x 10) = accMin x 10 := rfl
theorem pb4 : k0_pay44 (accMax x 4) (chunk x 5) (chunk x 6) (chunk x 7) (chunk x 8) (chunk x 9) (chunk x 10) = accMax x 10 := rfl
theorem pb5 : k0_pay45 (accMin x 10) (chunk x 11) (chunk x 12) (chunk x 13) (chunk x 14) (chunk x 15) = rowMin x := rfl
theorem pb6 : k0_pay46 (accMax x 10) (chunk x 11) (chunk x 12) (chunk x 13) (chunk x 14) (chunk x 15) = rowMax' x := rfl
theorem pb7 : k0_pay53 (rowMin x) (rowMax' x) (chunk x 0) = st (p0 x 0) := rfl
theorem pb8 : k0_pay54 (rowMin x) (rowMax' x) (chunk x 0) = st (p2 x 0) := rfl
theorem pb9 : k0_pay47 (rowMin x) (rowMax' x) = slope x := rfl
theorem pb10 : k0_pay48 (rowMin x) (rowMax' x) = off0 x := rfl
theorem pb11 : k0_pay49 (rowMin x) (rowMax' x) = off2 x := rfl
theorem pb12 : k0_pay56 (rowMin x) (rowMax' x) (chunk x 0) = (acc (rf x) 1) := rfl
theorem pb13 : k0_pay57 (rowMin x) (rowMax' x) (chunk x 0) = (acc (qrf x) 1) := rfl
theorem pb14 : k0_pay61 (slope x) (off0 x) (chunk x 1) = st (p0 x 1) := rfl
theorem pb15 : k0_pay62 (slope x) (off2 x) (chunk x 1) = st (p2 x 1) := rfl
theorem pb16 : k0_pay69 (slope x) (off0 x) (chunk x 2) = st (p0 x 2) := rfl
theorem pb17 : k0_pay64 (slope x) (off0 x) (off2 x) (acc (rf x) 1) (chunk x 1) = (acc (rf x) 2) := rfl
theorem pb18 : k0_pay65 (slope x) (off0 x) (off2 x) (acc (qrf x) 1) (chunk x 1) = (acc (qrf x) 2) := rfl
theorem pb19 : k0_pay67 (slope x) (off0 x) (chunk x 2) = (p0 x 2) := rfl
theorem pb20 : k0_pay68 (slope x) (off2 x) (chunk x 2) = (p2 x 2) := rfl
theorem pb21 : k0_pay70 (slope x) (off2 x) (chunk x 2) = st (p2 x 2) := rfl
theorem pb22 : k0_pay75 (slope x) (off0 x) (chunk x 3) = st (p0 x 3) := rfl
theorem pb23 : k0_pay76 (slope x) (off2 x) (chunk x 3) = st (p2 x 3) := rfl
theorem pb24 : k0_pay78 (slope x) (off0 x) (off2 x) (acc (rf x) 2) (p0 x 2) (p2 x 2) (chunk x 3) = (acc (rf x) 4) := rfl
theorem pb25 : k0_pay79 (slope x) (off0 x) (off2 x) (acc (qrf x) 2) (p0 x 2) (p2 x 2) (chunk x 3) = (acc (qrf x) 4) := rfl
theorem pb26 : k0_pay84 (off0 x) (chunk x 4) (k0_pay80 (slope x)) = st (p0 x 4) := rfl
theorem pb27 : k0_pay85 (off2 x) (chunk x 4) (k0_pay80 (slope x)) = st (p2 x 4) := rfl
theorem pb28 : k0_pay92 (slope x) (off0 x) (chunk x 5) = st (p0 x 5) := rfl
theorem pb29 : k0_pay93 (slope x) (off2 x) (chunk x 5) = st (p2 x 5) := rfl
theorem pb30 : k0_pay87 (off0 x) (off2 x) (acc (rf x) 4) (chunk x 4) (k0_pay80 (slope x)) = (acc (rf x) 5) := rfl
theorem pb31 : k0_pay88 (off0 x) (off2 x) (acc (qrf x) 4) (chunk x 4) (k0_pay80 (slope x)) = (acc (qrf x) 5) := rfl
theorem pb32 : k0_pay90 (slope x) (off0 x) (chunk x 5) = (p0 x 5) := rfl
theorem pb33 : k0_pay91 (slope x) (off2 x) (chunk x 5) = (p2 x 5) := rfl
theorem pb34 : k0_pay99 (slope x) (off0 x) (chunk x 6) = st (p0 x 6) := rfl
theorem pb35 : k0_pay100 (slope x) (off2 x) (chunk x 6) = st (p2 x 6) := rfl
theorem pb36 : k0_pay102 (slope x) (off0 x) (off2 x) (acc (rf x) 5) (p0 x 5) (p2 x 5) k0_pay94 (chunk x 6) = (acc (rf x) 7) := rfl
theorem pb37 : k0_pay103 (slope x) (off0 x) (off2 x) (acc (qrf x) 5) (p0 x 5) (p2 x 5) k0_pay94 (chunk x 6) = (acc (qrf x) 7) := rfl
theorem pb38 : k0_pay108 (k0_pay105 (slope x) (off0 x) (chunk x 7)) = st (p0 x 7) := rfl
theorem pb39 : k0_pay109 (off2 x) (k0_pay104 (slope x) (chunk x 7)) = st (p2 x 7) := rfl
theorem pb40 : k0_pay116 (slope x) (off0 x) (chunk x 8) = st (p0 x 8) := rfl
theorem pb41 : k0_pay117 (slope x) (off2 x) (chunk x 8) = st (p2 x 8) := rfl
theorem pb42 : k0_pay111 (off2 x) (acc (rf x) 7) (k0_pay104 (slope x) (chunk x 7)) (k0_pay105 (slope x) (off0 x) (chunk x 7)) = (acc (rf x) 8) := rfl
theorem pb43 : k0_pay112 (off2 x) (acc (qrf x) 7) (k0_pay104 (slope x) (chunk x 7)) (k0_pay105 (slope x) (off0 x) (chunk x 7)) = (acc (qrf x) 8) := rfl
theorem pb44 : k0_pay115 (slope x) (off2 x) (chunk x 8) = (p2 x 8) := rfl
theorem pb45 : k0_pay123 (slope x) (off0 x) (chunk x 9) = st (p0 x 9) := rfl
theorem pb46 : k0_pay124 (slope x) (off2 x) (chunk x 9) = st (p2 x 9) := rfl
theorem pb47 : k0_pay126 (slope x) (off0 x) (off2 x) (acc (rf x) 8) (k0_pay118 (slope x) (off0 x) (off2 x) (chunk x 8)) kOne (chunk x 9) = (acc (rf x) 10) := rfl
theorem pb48 : k0_pay127 (slope x) (off0 x) (off2 x) (acc (qrf x) 8) (p2 x 8) (k0_pay118 (slope x) (off0 x) (off2 x) (chunk x 8)) kOne (chunk x 9) = (acc (qrf x) 10) := rfl
theorem pb49 : k0_pay132 (k0_pay129 (slope x) (off0 x) (chunk x 10)) = st (p0 x 10) := rfl
theorem pb50 : k0_pay133 (k0_pay130 (slope x) (off2 x) (chunk x 10)) = st (p2 x 10) := rfl
theorem pb51 : k0_pay140 (slope x) (off0 x) (chunk x 11) = st (p0 x 11) := rfl
theorem pb52 : k0_pay141 (slope x) (off2 x) (chunk x 11) = st (p2 x 11) := rfl
theorem pb53 : k0_pay135 (acc (rf x) 10) (k0_pay129 (slope x) (off0 x) (chunk x 10)) (k0_pay130 (slope x) (off2 x) (chunk x 10)) = (acc (rf x) 11) := rfl
theorem pb54 : k0_pay136 (acc (qrf x) 10) (k0_pay129 (slope x) (off0 x) (chunk x 10)) (k0_pay130 (slope x) (off2 x) (chunk x 10)) = (acc (qrf x) 11) := rfl
theorem pb55 : k0_pay139 (slope x) (off2 x) (chunk x 11) = (p2 x 11) := rfl
theorem pb56 : k0_pay142 (slope x) (off0 x) (off2 x) (chunk x 11) = rf x 11 := rfl
theorem pb57 : k0_pay147 (slope x) (off0 x) (chunk x 12) = st (p0 x 12) := rfl
theorem pb58 : k0_pay148 (slope x) (off2 x) (chunk x 12) = st (p2 x 12) := rfl
theorem pb59 : k0_pay150 (slope x) (off0 x) (off2 x) (acc (rf x) 11) (rf x 11) (k0_pay143 (slope x) (off0 x) (off2 x) (chunk x 11)) (chunk x 12) = (acc (rf x) 13) := rfl
theorem pb60 : k0_pay151 (slope x) (off0 x) (off2 x) (acc (qrf x) 11) (p2 x 11) (rf x 11) (chunk x 12) = (acc (qrf x) 13) := rfl
theorem pb61 : k0_pay155 (k0_pay153 (slope x) (off0 x) (chunk x 13)) = st (p0 x 13) := rfl
theorem pb62 : k0_pay156 (k0_pay154 (slope x) (off2 x) (chunk x 13)) = st (p2 x 13) := rfl
theorem pb63 : k0_pay162 (slope x) (off0 x) (chunk x 14) = st (p0 x 14) := rfl
theorem pb64 : k0_pay163 (slope x) (off2 x) (chunk x 14) = st (p2 x 14) := rfl
theorem pb65 : k0_pay158 (acc (qrf x) 13) (k0_pay153 (slope x) (off0 x) (chunk x 13)) (k0_pay154 (slope x) (off2 x) (chunk x 13)) = (acc (qrf x) 14) := rfl
theorem pb66 : k0_pay161 (slope x) (off2 x) (chunk x 14) = (p2 x 14) := rfl
theorem pb67 : k0_pay164 (slope x) (off0 x) (off2 x) (chunk x 14) = rf x 14 := rfl
theorem pb68 : k0_pay165 (slope x) (off0 x) (off2 x) (acc (rf x) 13) (k0_pay153 (slope x) (off0 x) (chunk x 13)) (k0_pay154 (slope x) (off2 x) (chunk x 13)) (chunk x 14) = (acc (rf x) 15) := rfl
theorem pb69 : k0_pay169 (slope x) (off0 x) (chunk x 15) = st (p0 x 15) := rfl
theorem pb70 : k0_pay170 (slope x) (off2 x) (chunk x 15) = st (p2 x 15) := rfl
theorem pb71 : k0_pay172 (slope x) (off0 x) (off2 x) (acc (rf x) 15) (chunk x 15) = first1 x := rfl
theorem pb72 : k0_pay173 (slope x) (off0 x) (off2 x) (acc (qrf x) 14) (p2 x 14) (rf x 14) (chunk x 15) = first2 x := rfl
theorem pb73 : k0_pay176 (first2 x) k0_pay174 (k0_pay175 (slope x) (off0 x) (off2 x) (acc (rf x) 15) (chunk x 15)) kOne = start0 x := rfl
theorem pb74 : k0_pay177 (first1 x) = start1 x := rfl
theorem pb75 : k0_pay178 (first2 x) = start2 x := rfl
theorem pb76 : k0_pay179 a0 = st1 a0 := rfl
theorem pb77 : k0_pay180 a2 = st1 a2 := rfl
theorem pb78 : k0_pay181 a2 = st1 a2 := rfl

/-! ## The step after the loop -/

theorem pc1 : k0_pay5 a0 a1 a2 kOne (chunk q0 0) (chunk q2 0) (chunk q0 1) (chunk q2 1) = (acc (rc q0 q2 a0 a1 a2) 2) := rfl
theorem pc2 : k0_pay6 a0 a1 a2 kOne (chunk q0 0) (chunk q2 0) (chunk q0 1) (chunk q2 1) = (acc (qrc q0 q2 a0 a1 a2) 2) := rfl
theorem pc3 : k0_pay10 a0 a1 a2 kOne (acc (qrc q0 q2 a0 a1 a2) 2) (chunk q2 2) (k0_pay7 a0 (chunk q0 2)) (chunk q0 3) (chunk q2 3) = (acc (qrc q0 q2 a0 a1 a2) 4) := rfl
theorem pc4 : k0_pay12 a0 a1 a2 kOne (acc (rc q0 q2 a0 a1 a2) 2) (chunk q2 2) (k0_pay7 a0 (chunk q0 2)) (chunk q0 3) (chunk q2 3) (chunk q0 4) (chunk q2 4) = (acc (rc q0 q2 a0 a1 a2) 5) := rfl
theorem pc5 : k0_pay13 a0 a1 a2 kOne (chunk q0 4) (chunk q2 4) = (qrc q0 q2 a0 a1 a2 4) := rfl
theorem pc6 : k0_pay16 a0 a1 a2 kOne (acc (rc q0 q2 a0 a1 a2) 5) (chunk q0 5) (chunk q2 5) (chunk q0 6) (chunk q2 6) = (acc (rc q0 q2 a0 a1 a2) 7) := rfl
theorem pc7 : k0_pay17 a0 a1 a2 kOne (acc (qrc q0 q2 a0 a1 a2) 4) (qrc q0 q2 a0 a1 a2 4) (chunk q0 5) (chunk q2 5) (chunk q0 6) (chunk q2 6) = (acc (qrc q0 q2 a0 a1 a2) 7) := rfl
theorem pc8 : k0_pay21 a0 a1 a2 kOne (acc (qrc q0 q2 a0 a1 a2) 7) (chunk q2 7) (k0_pay18 a0 (chunk q0 7)) (chunk q0 8) (chunk q2 8) = (acc (qrc q0 q2 a0 a1 a2) 9) := rfl
theorem pc9 : k0_pay23 a0 a1 a2 kOne (acc (rc q0 q2 a0 a1 a2) 7) (chunk q2 7) (k0_pay18 a0 (chunk q0 7)) (chunk q0 8) (chunk q2 8) (chunk q0 9) (chunk q2 9) = (acc (rc q0 q2 a0 a1 a2) 10) := rfl
theorem pc10 : k0_pay24 a0 a1 a2 kOne (chunk q0 9) (chunk q2 9) = (qrc q0 q2 a0 a1 a2 9) := rfl
theorem pc11 : k0_pay27 a0 a1 a2 kOne (acc (rc q0 q2 a0 a1 a2) 10) (chunk q0 10) (chunk q2 10) (chunk q0 11) (chunk q2 11) = (acc (rc q0 q2 a0 a1 a2) 12) := rfl
theorem pc12 : k0_pay28 a0 a1 a2 kOne (acc (qrc q0 q2 a0 a1 a2) 9) (qrc q0 q2 a0 a1 a2 9) (chunk q0 10) (chunk q2 10) (chunk q0 11) (chunk q2 11) = (acc (qrc q0 q2 a0 a1 a2) 12) := rfl
theorem pc13 : k0_pay32 a0 a1 a2 kOne (acc (qrc q0 q2 a0 a1 a2) 12) (chunk q2 12) (k0_pay29 a0 (chunk q0 12)) (chunk q0 13) (chunk q2 13) = (acc (qrc q0 q2 a0 a1 a2) 14) := rfl
theorem pc14 : k0_pay34 a0 a1 a2 kOne (acc (rc q0 q2 a0 a1 a2) 12) (chunk q2 12) (k0_pay29 a0 (chunk q0 12)) (chunk q0 13) (chunk q2 13) (chunk q0 14) (chunk q2 14) = (acc (rc q0 q2 a0 a1 a2) 15) := rfl
theorem pc15 : k0_pay35 a0 a1 a2 kOne (chunk q0 14) (chunk q2 14) = (qrc q0 q2 a0 a1 a2 14) := rfl
theorem pc16 : k0_pay39 a0 a1 a2 kOne kTop kAll (acc (qrc q0 q2 a0 a1 a2) 14) (acc (rc q0 q2 a0 a1 a2) 15) (qrc q0 q2 a0 a1 a2 14) (chunk q0 15) (chunk q2 15) = st1 (next0 q0 q2 a0 a1 a2) := rfl
theorem pc17 : k0_pay38 a0 a1 a2 kOne kTop (acc (qrc q0 q2 a0 a1 a2) 14) (qrc q0 q2 a0 a1 a2 14) (chunk q0 15) (chunk q2 15) = next2 q0 q2 a0 a1 a2 := rfl

/-! ## The output -/

/-- The output on chunk `k`. -/
def oc (k : Fin 16) : VC F := outC a0 a1 a2 b0 b2 (chunk q0 k) (chunk q2 k)

theorem pd1 : k0_pay184 b0 b2 (chunk q0 0) (chunk q2 0) (k0_pay182 a0 a1 (chunk q0 0)) (k0_pay183 a2 (chunk q2 0)) = oc q0 q2 a0 a1 a2 b0 b2 0 := rfl
theorem pd2 : k0_pay185 a0 a1 a2 b0 b2 (chunk q0 1) (chunk q2 1) = oc q0 q2 a0 a1 a2 b0 b2 1 := rfl
theorem pd3 : k0_pay189 (k0_pay186 a0 a1 a2 (chunk q0 2) (chunk q2 2)) (k0_pay187 b2 (chunk q2 2)) (k0_pay188 b0 (chunk q0 2)) = oc q0 q2 a0 a1 a2 b0 b2 2 := rfl
theorem pd4 : k0_pay190 a0 a1 a2 b0 b2 (chunk q0 3) (chunk q2 3) = oc q0 q2 a0 a1 a2 b0 b2 3 := rfl
theorem pd5 : k0_pay191 a0 a1 a2 b0 b2 (chunk q0 4) (chunk q2 4) = oc q0 q2 a0 a1 a2 b0 b2 4 := rfl
theorem pd6 : k0_pay192 a0 a1 a2 b0 b2 (chunk q0 5) (chunk q2 5) = oc q0 q2 a0 a1 a2 b0 b2 5 := rfl
theorem pd7 : k0_pay193 a0 a1 a2 b0 b2 (chunk q0 6) (chunk q2 6) = oc q0 q2 a0 a1 a2 b0 b2 6 := rfl
theorem pd8 : k0_pay195 a2 b0 b2 (chunk q0 7) (chunk q2 7) (k0_pay194 a0 a1 (chunk q0 7)) = oc q0 q2 a0 a1 a2 b0 b2 7 := rfl
theorem pd9 : k0_pay196 a0 a1 a2 b0 b2 (chunk q0 8) (chunk q2 8) = oc q0 q2 a0 a1 a2 b0 b2 8 := rfl
theorem pd10 : k0_pay199 b0 (chunk q0 9) (k0_pay197 a0 a1 a2 (chunk q0 9) (chunk q2 9)) (k0_pay198 b2 (chunk q2 9)) = oc q0 q2 a0 a1 a2 b0 b2 9 := rfl
theorem pd11 : k0_pay200 a0 a1 a2 b0 b2 (chunk q0 10) (chunk q2 10) = oc q0 q2 a0 a1 a2 b0 b2 10 := rfl
theorem pd12 : k0_pay201 a0 a1 a2 b0 b2 (chunk q0 11) (chunk q2 11) = oc q0 q2 a0 a1 a2 b0 b2 11 := rfl
theorem pd13 : k0_pay202 a0 a1 a2 b0 b2 (chunk q0 12) (chunk q2 12) = oc q0 q2 a0 a1 a2 b0 b2 12 := rfl
theorem pd14 : k0_pay203 a0 a1 a2 b0 b2 (chunk q0 13) (chunk q2 13) = oc q0 q2 a0 a1 a2 b0 b2 13 := rfl
theorem pd15 : k0_pay205 a1 a2 b0 b2 (chunk q0 14) (chunk q2 14) (k0_pay204 a0 (chunk q0 14)) = oc q0 q2 a0 a1 a2 b0 b2 14 := rfl
theorem pd16 : k0_pay1 (k0_pay206 a0 a1 a2 (chunk q0 15) (chunk q2 15)) (k0_pay207 b0 b2 (chunk q0 15) (chunk q2 15)) = oc q0 q2 a0 a1 a2 b0 b2 15 := rfl

end Cert.KernelIdeal.Stk

end
-- ==== Proof.KI.Parts.lean ====
/-
  The kernel's straight-line parts, one specification each: what buffers the part holds, what it stores, and what it
  passes on.
-/
module

public import proofs.«01_k».proof.Proof.KI.While
public import proofs.«01_k».proof.Proof.KI.PaysBody
public import Idealize.ShloMosaic.Lib.Pipeline.ReadBack

@[expose] public section

set_option maxRecDepth 16384

noncomputable section

namespace Cert.KernelIdeal.Stk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first `n` chunks of a block, as stores (the last one first). -/
def pieces (G : VB F) : ℕ → List (View.Piece (Elt F) S128x4096 .f32)
  | 0 => []
  | n + 1 => ⟨rC (Fin.ofNat 16 n), chunk G (Fin.ofNat 16 n)⟩ :: pieces G n

theorem st_eq (p : VC F) : st p = p := shapeCast_self p _

theorem st1_eq (a : V1 F) : st1 a = a := shapeCast_self a _

/-- Along a chunk is a chunk of along the block. -/
theorem along_eq (v : V1 F) (k : Fin 16) : along v = chunk (alongB v) k := by
  funext y
  unfold along chunk alongB broadcastTo
  refine congrArg v (funext fun a => Fin.ext ?_)
  match a with
  | ⟨0, _⟩ => simp [S128x1, LoadRect.idx, Rect.toLoadRect]
  | ⟨1, _⟩ => simp [S128x1]

theorem p0_eq (x : VB F) (k : Fin 16) : p0 x k = chunk (Q0 x) k := by
  unfold p0 plane0; rw [along_eq _ k, along_eq _ k]; rfl

theorem p2_eq (x : VB F) (k : Fin 16) : p2 x k = chunk (Q2 x) k := by
  unfold p2 plane2; rw [along_eq _ k, along_eq _ k]; rfl

theorem oc_eq (q0 q2 : VB F) (a0 a1 a2 b0 b2 : V1 F) (k : Fin 16) : oc q0 q2 a0 a1 a2 b0 b2 k = chunk (outB a0 a1 a2 b0 b2 q0 q2) k := by
  unfold oc outC recip; rw [along_eq b2 k, along_eq b0 k, along_eq a1 k, along_eq a0 k, along_eq a2 k]; rfl

theorem pieces_of (G : VB F) : ∀ n, View.PiecesOf G (pieces G n)
  | 0 => trivial
  | n + 1 => ⟨fun _ => rfl, pieces_of G n⟩

/-- Sixteen chunks stored are the block. -/
theorem read_pieces (v : View sig .tc .vmem S128x4096 .f32) (f : v.ty.Contents (Elt F)) (G : VB F) :
    v.read (Elt F) (v.writes (Elt F) f (pieces G 16)) = G := by
  rw [View.read_writes_eq_canon v f _ (View.cover_of_tiled (pieces G 16) S128x256.size (by sl_kernel_rfl))]
  funext y
  have h := View.canon_append_of_piecesOf G [] (pieces G 16) (by
    exact pieces_of G 16) y (View.cover_of_tiled (pieces G 16) S128x256.size (by sl_kernel_rfl) y)
  rwa [List.append_nil] at h

/-- A column stored whole is read back. -/
theorem rd_col (v : View sig .tc .vmem S128x1 .f32) (f : v.ty.Contents (Elt F)) (a : Vec F S128x1 .f32) (L : List (View.Piece (Elt F) S128x1 .f32)) :
    v.readAt (Elt F) (Rect.unit (s := S128x1) ![0, 0] S128x1.size inb_S128x1_S128x1_0_0).toLoadRect
      (v.writes (Elt F) f (⟨Rect.unit (s := S128x1) ![0, 0] S128x1.size inb_S128x1_S128x1_0_0, a⟩ :: L)) = a := by
  funext j
  rw [View.readAt_apply]
  exact View.read_writes_cons_emb v f _ a L j

variable (c : Dev nD) (i : grid0.Coords) (arg1 : Memref sig .tc .vmem S128x4096 .f32) (harg1 : arg1.IsWhole)
  (arg2 : Memref sig .tc .vmem S128x4096 .f32) (harg2 : arg2.IsWhole)
  (arg3 : Memref sig .tc .vmem S128x4096 .f32) (harg3 : arg3.IsWhole)
  (arg4 : Memref sig .tc .vmem S128x4096 .f32) (harg4 : arg4.IsWhole)
  (arg5 : Memref sig .tc .vmem S128x1 .f32) (harg5 : arg5.IsWhole)
  (arg6 : Memref sig .tc .vmem S128x1 .f32) (harg6 : arg6.IsWhole)
  (x q0 q2 : VB F) (a0 a1 a2 b0 b2 : V1 F) (f3 : arg3.view.ty.Contents (Elt F)) (f4 : arg4.view.ty.Contents (Elt F))
  (f2 : arg2.view.ty.Contents (Elt F)) (f5 : arg5.view.ty.Contents (Elt F)) (f6 : arg6.view.ty.Contents (Elt F))

/-- The scores held, and the first `m`, `n` chunks of the planes stored. -/
def filling (m n : ℕ) : sProp 𝕄 :=
  iprop((arg1.view.loc (c : Thread nD τ) ↦[arg1.view.set]{fullShare} arg1.view.rep x)
    ∗ (arg3.view.loc (c : Thread nD τ) ↦[arg3.view.set]{fullShare} arg3.view.writes (Elt F) f3 (pieces (Q0 x) m))
    ∗ (arg4.view.loc (c : Thread nD τ) ↦[arg4.view.set]{fullShare} arg4.view.writes (Elt F) f4 (pieces (Q2 x) n)))

/-! ## The row minima and maxima -/

/-- The scores' buffer. -/
def scores : sProp 𝕄 := iprop((arg1.view.loc (c : Thread nD τ) ↦[arg1.view.set]{fullShare} arg1.view.rep x))

theorem part8_wp (K) :
    scores c arg1 x ∗ (scores c arg1 x -∗ K ⟨accMin x 4, accMax x 4, chunk x 5, k0_pay42 (chunk x 5)⟩)
      ⊢ wp frame (wpE (defs₀ (F := F)) 𝒱₀ (c : Thread nD τ) none) Set.univ
          (k0_part8 i arg1 harg1 arg2 harg2 arg3 harg3 arg4 harg4 arg5 harg5 arg6 harg6) K := by
  simp only [k0_part8_eq_skeleton]; unfold k0_part8_skel scores
  iintro ⟨H1, Hk⟩
  sl_exec
  rw [wp_ret, rd0 arg1.view x, rd1 arg1.view x, rd2 arg1.view x, rd3 arg1.view x, rd4 arg1.view x, rd5 arg1.view x, pb1, pb2]
  imodintro
  iapply Hk
  iexact H1

theorem part9_wp (K) :
    scores c arg1 x ∗ (scores c arg1 x -∗ K ⟨accMin x 10, accMax x 10⟩)
      ⊢ wp frame (wpE (defs₀ (F := F)) 𝒱₀ (c : Thread nD τ) none) Set.univ
          (k0_part9 i arg1 harg1 arg2 harg2 arg3 harg3 arg4 harg4 arg5 harg5 arg6 harg6 (accMin x 4) (accMax x 4) (chunk x 5) (k0_pay42 (chunk x 5))) K := by
  simp only [k0_part9_eq_skeleton]; unfold k0_part9_skel scores
  iintro ⟨H1, Hk⟩
  sl_exec
  rw [wp_ret, rd6 arg1.view x, rd7 arg1.view x, rd8 arg1.view x, rd9 arg1.view x, rd10 arg1.view x, pb3, pb4]
  imodintro
  iapply Hk
  iexact H1

theorem part10_wp (K) :
    scores c arg1 x ∗ (scores c arg1 x -∗ K ⟨rowMin x, rowMax' x⟩)
      ⊢ wp frame (wpE (defs₀ (F := F)) 𝒱₀ (c : Thread nD τ) none) Set.univ
          (k0_part10 i arg1 harg1 arg2 harg2 arg3 harg3 arg4 harg4 arg5 harg5 arg6 harg6 (accMin x 10) (accMax x 10)) K := by
  simp only [k0_part10_eq_skeleton]; unfold k0_part10_skel scores
  iintro ⟨H1, Hk⟩
  sl_exec
  rw [wp_ret, rd11 arg1.view x, rd12 arg1.view x, rd13 arg1.view x, rd14 arg1.view x, rd15 arg1.view x, pb5, pb6]
  imodintro
  iapply Hk
  iexact H1

/-! ## The planes and the first sums -/

theorem part11_wp (K) :
    filling c arg1 arg3 arg4 x f3 f4 0 0 ∗ (filling c arg1 arg3 arg4 x f3 f4 1 1 -∗ K ⟨slope x, off0 x, off2 x, acc (rf x) 1, acc (qrf x) 1⟩)
      ⊢ wp frame (wpE (defs₀ (F := F)) 𝒱₀ (c : Thread nD τ) none) Set.univ
          (k0_part11 i arg1 harg1 arg2 harg2 arg3 harg3 arg4 harg4 arg5 harg5 arg6 harg6 (rowMin x) (rowMax' x)) K := by
  simp only [k0_part11_eq_skeleton]; unfold k0_part11_skel filling
  iintro ⟨⟨H1, H3, H4⟩, Hk⟩
  sl_exec
  rw [wp_ret, rd0 arg1.view x, pb7, pb8, pb9, pb10, pb11, pb12, pb13]
  have e0_0 : st (p0 x 0) = chunk (Q0 x) 0 := (st_eq _).trans (p0_eq x 0)
  have e2_0 : st (p2 x 0) = chunk (Q2 x) 0 := (st_eq _).trans (p2_eq x 0)
  simp only [e0_0, e2_0]
  imodintro
  iapply Hk
  isplitl [H1]; · iexact H1
  isplitl [H3]; · iexact H3
  iexact H4

theorem part12_wp (K) :
    filling c arg1 arg3 arg4 x f3 f4 1 1 ∗ (filling c arg1 arg3 arg4 x f3 f4 3 2 -∗ K ⟨acc (rf x) 2, acc (qrf x) 2, p0 x 2, p2 x 2, chunk (Q2 x) 2⟩)
      ⊢ wp frame (wpE (defs₀ (F := F)) 𝒱₀ (c : Thread nD τ) none) Set.univ
          (k0_part12 i arg1 harg1 arg2 harg2 arg3 harg3 arg4 harg4 arg5 harg5 arg6 harg6 (slope x) (off0 x) (off2 x) (acc (rf x) 1) (acc (qrf x) 1)) K := by
  simp only [k0_part12_eq_skeleton]; unfold k0_part12_skel filling
  iintro ⟨⟨H1, H3, H4⟩, Hk⟩
  sl_exec
  rw [wp_ret, rd1 arg1.view x, rd2 arg1.view x, pb14, pb15, pb16, pb17, pb18, pb19, pb20, pb21]
  have e0_1 : st (p0 x 1) = chunk (Q0 x) 1 := (st_eq _).trans (p0_eq x 1)
  have e0_2 : st (p0 x 2) = chunk (Q0 x) 2 := (st_eq _).trans (p0_eq x 2)
  have e2_1 : st (p2 x 1) = chunk (Q2 x) 1 := (st_eq _).trans (p2_eq x 1)
  have e2_2 : st (p2 x 2) = chunk (Q2 x) 2 := (st_eq _).trans (p2_eq x 2)
  simp only [e0_1, e0_2, e2_1, e2_2]
  imodintro
  iapply Hk
  isplitl [H1]; · iexact H1
  isplitl [H3]; · iexact H3
  iexact H4

theorem part13_wp (K) :
    filling c arg1 arg3 arg4 x f3 f4 3 2 ∗ (filling c arg1 arg3 arg4 x f3 f4 4 4 -∗ K ⟨acc (rf x) 4, acc (qrf x) 4, chunk x 4, k0_pay80 (slope x)⟩)
      ⊢ wp frame (wpE (defs₀ (F := F)) 𝒱₀ (c : Thread nD τ) none) Set.univ
          (k0_part13 i arg1 harg1 arg2 harg2 arg3 harg3 arg4 harg4 arg5 harg5 arg6 harg6 (slope x) (off0 x) (off2 x) (acc (rf x) 2) (acc (qrf x) 2) (p0 x 2) (p2 x 2) (chunk (Q2 x) 2)) K := by
  simp only [k0_part13_eq_skeleton]; unfold k0_part13_skel filling
  iintro ⟨⟨H1, H3, H4⟩, Hk⟩
  sl_exec
  rw [wp_ret, rd3 arg1.view x, rd4 arg1.view x, pb22, pb23, pb24, pb25]
  have e0_3 : st (p0 x 3) = chunk (Q0 x) 3 := (st_eq _).trans (p0_eq x 3)
  have e2_3 : st (p2 x 3) = chunk (Q2 x) 3 := (st_eq _).trans (p2_eq x 3)
  simp only [e0_3, e2_3]
  imodintro
  iapply Hk
  isplitl [H1]; · iexact H1
  isplitl [H3]; · iexact H3
  iexact H4

theorem part14_wp (K) :
    filling c arg1 arg3 arg4 x f3 f4 4 4 ∗ (filling c arg1 arg3 arg4 x f3 f4 6 6 -∗ K ⟨acc (rf x) 5, acc (qrf x) 5, p0 x 5, p2 x 5, k0_pay94⟩)
      ⊢ wp frame (wpE (defs₀ (F := F)) 𝒱₀ (c : Thread nD τ) none) Set.univ
          (k0_part14 i arg1 harg1 arg2 harg2 arg3 harg3 arg4 harg4 arg5 harg5 arg6 harg6 (slope x) (off0 x) (off2 x) (acc (rf x) 4) (acc (qrf x) 4) (chunk x 4) (k0_pay80 (slope x))) K := by
  simp only [k0_part14_eq_skeleton]; unfold k0_part14_skel filling
  iintro ⟨⟨H1, H3, H4⟩, Hk⟩
  sl_exec
  rw [wp_ret, rd5 arg1.view x, pb26, pb27, pb28, pb29, pb30, pb31, pb32, pb33]
  have e0_4 : st (p0 x 4) = chunk (Q0 x) 4 := (st_eq _).trans (p0_eq x 4)
  have e0_5 : st (p0 x 5) = chunk (Q0 x) 5 := (st_eq _).trans (p0_eq x 5)
  have e2_4 : st (p2 x 4) = chunk (Q2 x) 4 := (st_eq _).trans (p2_eq x 4)
  have e2_5 : st (p2 x 5) = chunk (Q2 x) 5 := (st_eq _).trans (p2_eq x 5)
  simp only [e0_4, e0_5, e2_4, e2_5]
  imodintro
  iapply Hk
  isplitl [H1]; · iexact H1
  isplitl [H3]; · iexact H3
  iexact H4

theorem part15_wp (K) :
    filling c arg1 arg3 arg4 x f3 f4 6 6 ∗ (filling c arg1 arg3 arg4 x f3 f4 7 7 -∗ K ⟨acc (rf x) 7, acc (qrf x) 7, (k0_pay104 (slope x) (chunk x 7)), (k0_pay105 (slope x) (off0 x) (chunk x 7))⟩)
      ⊢ wp frame (wpE (defs₀ (F := F)) 𝒱₀ (c : Thread nD τ) none) Set.univ
          (k0_part15 i arg1 harg1 arg2 harg2 arg3 harg3 arg4 harg4 arg5 harg5 arg6 harg6 (slope x) (off0 x) (off2 x) (acc (rf x) 5) (acc (qrf x) 5) (p0 x 5) (p2 x 5) k0_pay94) K := by
  simp only [k0_part15_eq_skeleton]; unfold k0_part15_skel filling
  iintro ⟨⟨H1, H3, H4⟩, Hk⟩
  sl_exec
  rw [wp_ret, rd6 arg1.view x, rd7 arg1.view x, pb34, pb35, pb36, pb37]
  have e0_6 : st (p0 x 6) = chunk (Q0 x) 6 := (st_eq _).trans (p0_eq x 6)
  have e2_6 : st (p2 x 6) = chunk (Q2 x) 6 := (st_eq _).trans (p2_eq x 6)
  simp only [e0_6, e2_6]
  imodintro
  iapply Hk
  isplitl [H1]; · iexact H1
  isplitl [H3]; · iexact H3
  iexact H4

theorem part16_wp (K) :
    filling c arg1 arg3 arg4 x f3 f4 7 7 ∗ (filling c arg1 arg3 arg4 x f3 f4 9 9 -∗ K ⟨acc (rf x) 8, acc (qrf x) 8, p2 x 8, (k0_pay118 (slope x) (off0 x) (off2 x) (chunk x 8)), kOne⟩)
      ⊢ wp frame (wpE (defs₀ (F := F)) 𝒱₀ (c : Thread nD τ) none) Set.univ
          (k0_part16 i arg1 harg1 arg2 harg2 arg3 harg3 arg4 harg4 arg5 harg5 arg6 harg6 (slope x) (off0 x) (off2 x) (acc (rf x) 7) (acc (qrf x) 7) (k0_pay104 (slope x) (chunk x 7)) (k0_pay105 (slope x) (off0 x) (chunk x 7))) K := by
  simp only [k0_part16_eq_skeleton]; unfold k0_part16_skel filling
  iintro ⟨⟨H1, H3, H4⟩, Hk⟩
  sl_exec
  rw [wp_ret, rd8 arg1.view x, pb38, pb39, pb40, pb41, pb42, pb43, pb44]
  have e0_7 : st (p0 x 7) = chunk (Q0 x) 7 := (st_eq _).trans (p0_eq x 7)
  have e0_8 : st (p0 x 8) = chunk (Q0 x) 8 := (st_eq _).trans (p0_eq x 8)
  have e2_7 : st (p2 x 7) = chunk (Q2 x) 7 := (st_eq _).trans (p2_eq x 7)
  have e2_8 : st (p2 x 8) = chunk (Q2 x) 8 := (st_eq _).trans (p2_eq x 8)
  simp only [e0_7, e0_8, e2_7, e2_8]
  imodintro
  unfold part16_wp.sl.cst_94
  iapply Hk
  isplitl [H1]; · iexact H1
  isplitl [H3]; · iexact H3
  iexact H4

theorem part17_wp (K) :
    filling c arg1 arg3 arg4 x f3 f4 9 9 ∗ (filling c arg1 arg3 arg4 x f3 f4 10 10 -∗ K ⟨acc (rf x) 10, acc (qrf x) 10, (k0_pay129 (slope x) (off0 x) (chunk x 10)), (k0_pay130 (slope x) (off2 x) (chunk x 10))⟩)
      ⊢ wp frame (wpE (defs₀ (F := F)) 𝒱₀ (c : Thread nD τ) none) Set.univ
          (k0_part17 i arg1 harg1 arg2 harg2 arg3 harg3 arg4 harg4 arg5 harg5 arg6 harg6 (slope x) (off0 x) (off2 x) (acc (rf x) 8) (acc (qrf x) 8) (p2 x 8) (k0_pay118 (slope x) (off0 x) (off2 x) (chunk x 8)) kOne) K := by
  simp only [k0_part17_eq_skeleton]; unfold k0_part17_skel filling
  iintro ⟨⟨H1, H3, H4⟩, Hk⟩
  sl_exec
  rw [wp_ret, rd9 arg1.view x, rd10 arg1.view x, pb45, pb46, pb47, pb48]
  have e0_9 : st (p0 x 9) = chunk (Q0 x) 9 := (st_eq _).trans (p0_eq x 9)
  have e2_9 : st (p2 x 9) = chunk (Q2 x) 9 := (st_eq _).trans (p2_eq x 9)
  simp only [e0_9, e2_9]
  imodintro
  iapply Hk
  isplitl [H1]; · iexact H1
  isplitl [H3]; · iexact H3
  iexact H4

theorem part18_wp (K) :
    filling c arg1 arg3 arg4 x f3 f4 10 10 ∗ (filling c arg1 arg3 arg4 x f3 f4 12 12 -∗ K ⟨acc (rf x) 11, acc (qrf x) 11, p2 x 11, rf x 11, (k0_pay143 (slope x) (off0 x) (off2 x) (chunk x 11))⟩)
      ⊢ wp frame (wpE (defs₀ (F := F)) 𝒱₀ (c : Thread nD τ) none) Set.univ
          (k0_part18 i arg1 harg1 arg2 harg2 arg3 harg3 arg4 harg4 arg5 harg5 arg6 harg6 (slope x) (off0 x) (off2 x) (acc (rf x) 10) (acc (qrf x) 10) (k0_pay129 (slope x) (off0 x) (chunk x 10)) (k0_pay130 (slope x) (off2 x) (chunk x 10))) K := by
  simp only [k0_part18_eq_skeleton]; unfold k0_part18_skel filling
  iintro ⟨⟨H1, H3, H4⟩, Hk⟩
  sl_exec
  rw [wp_ret, rd11 arg1.view x, pb49, pb50, pb51, pb52, pb53, pb54, pb55, pb56]
  have e0_10 : st (p0 x 10) = chunk (Q0 x) 10 := (st_eq _).trans (p0_eq x 10)
  have e0_11 : st (p0 x 11) = chunk (Q0 x) 11 := (st_eq _).trans (p0_eq x 11)
  have e2_10 : st (p2 x 10) = chunk (Q2 x) 10 := (st_eq _).trans (p2_eq x 10)
  have e2_11 : st (p2 x 11) = chunk (Q2 x) 11 := (st_eq _).trans (p2_eq x 11)
  simp only [e0_10, e0_11, e2_10, e2_11]
  imodintro
  iapply Hk
  isplitl [H1]; · iexact H1
  isplitl [H3]; · iexact H3
  iexact H4

theorem part19_wp (K) :
    filling c arg1 arg3 arg4 x f3 f4 12 12 ∗ (filling c arg1 arg3 arg4 x f3 f4 13 13 -∗ K ⟨acc (rf x) 13, acc (qrf x) 13, (k0_pay153 (slope x) (off0 x) (chunk x 13)), (k0_pay154 (slope x) (off2 x) (chunk x 13))⟩)
      ⊢ wp frame (wpE (defs₀ (F := F)) 𝒱₀ (c : Thread nD τ) none) Set.univ
          (k0_part19 i arg1 harg1 arg2 harg2 arg3 harg3 arg4 harg4 arg5 harg5 arg6 harg6 (slope x) (off0 x) (off2 x) (acc (rf x) 11) (acc (qrf x) 11) (p2 x 11) (rf x 11) (k0_pay143 (slope x) (off0 x) (off2 x) (chunk x 11))) K := by
  simp only [k0_part19_eq_skeleton]; unfold k0_part19_skel filling
  iintro ⟨⟨H1, H3, H4⟩, Hk⟩
  sl_exec
  rw [wp_ret, rd12 arg1.view x, rd13 arg1.view x, pb57, pb58, pb59, pb60]
  have e0_12 : st (p0 x 12) = chunk (Q0 x) 12 := (st_eq _).trans (p0_eq x 12)
  have e2_12 : st (p2 x 12) = chunk (Q2 x) 12 := (st_eq _).trans (p2_eq x 12)
  simp only [e0_12, e2_12]
  imodintro
  iapply Hk
  isplitl [H1]; · iexact H1
  isplitl [H3]; · iexact H3
  iexact H4

theorem part20_wp (K) :
    filling c arg1 arg3 arg4 x f3 f4 13 13 ∗ (filling c arg1 arg3 arg4 x f3 f4 15 15 -∗ K ⟨acc (qrf x) 14, p2 x 14, rf x 14, acc (rf x) 15⟩)
      ⊢ wp frame (wpE (defs₀ (F := F)) 𝒱₀ (c : Thread nD τ) none) Set.univ
          (k0_part20 i arg1 harg1 arg2 harg2 arg3 harg3 arg4 harg4 arg5 harg5 arg6 harg6 (slope x) (off0 x) (off2 x) (acc (rf x) 13) (acc (qrf x) 13) (k0_pay153 (slope x) (off0 x) (chunk x 13)) (k0_pay154 (slope x) (off2 x) (chunk x 13))) K := by
  simp only [k0_part20_eq_skeleton]; unfold k0_part20_skel filling
  iintro ⟨⟨H1, H3, H4⟩, Hk⟩
  sl_exec
  rw [wp_ret, rd14 arg1.view x, pb61, pb62, pb63, pb64, pb65, pb66, pb67, pb68]
  have e0_13 : st (p0 x 13) = chunk (Q0 x) 13 := (st_eq _).trans (p0_eq x 13)
  have e0_14 : st (p0 x 14) = chunk (Q0 x) 14 := (st_eq _).trans (p0_eq x 14)
  have e2_13 : st (p2 x 13) = chunk (Q2 x) 13 := (st_eq _).trans (p2_eq x 13)
  have e2_14 : st (p2 x 14) = chunk (Q2 x) 14 := (st_eq _).trans (p2_eq x 14)
  simp only [e0_13, e0_14, e2_13, e2_14]
  imodintro
  iapply Hk
  isplitl [H1]; · iexact H1
  isplitl [H3]; · iexact H3
  iexact H4

theorem part21_wp (K) :
    filling c arg1 arg3 arg4 x f3 f4 15 15 ∗ (filling c arg1 arg3 arg4 x f3 f4 16 16 -∗ K ⟨first1 x, first2 x, k0_pay174, k0_pay175 (slope x) (off0 x) (off2 x) (acc (rf x) 15) (chunk x 15), kOne⟩)
      ⊢ wp frame (wpE (defs₀ (F := F)) 𝒱₀ (c : Thread nD τ) none) Set.univ
          (k0_part21 i arg1 harg1 arg2 harg2 arg3 harg3 arg4 harg4 arg5 harg5 arg6 harg6 (slope x) (off0 x) (off2 x) (acc (qrf x) 14) (p2 x 14) (rf x 14) (acc (rf x) 15)) K := by
  simp only [k0_part21_eq_skeleton]; unfold k0_part21_skel filling
  iintro ⟨⟨H1, H3, H4⟩, Hk⟩
  sl_exec
  rw [wp_ret, rd15 arg1.view x, pb69, pb70, pb71, pb72]
  have e0_15 : st (p0 x 15) = chunk (Q0 x) 15 := (st_eq _).trans (p0_eq x 15)
  have e2_15 : st (p2 x 15) = chunk (Q2 x) 15 := (st_eq _).trans (p2_eq x 15)
  simp only [e0_15, e2_15]
  imodintro
  unfold part21_wp.sl.cst_157
  iapply Hk
  isplitl [H1]; · iexact H1
  isplitl [H3]; · iexact H3
  iexact H4

/-! ## The step after the loop -/

theorem part1_wp (K) :
    held c arg3 arg4 q0 q2 ∗ (held c arg3 arg4 q0 q2 -∗ K ⟨acc (rc q0 q2 a0 a1 a2) 2, acc (qrc q0 q2 a0 a1 a2) 2, chunk q2 2, k0_pay7 a0 (chunk q0 2)⟩)
      ⊢ wp frame (wpE (defs₀ (F := F)) 𝒱₀ (c : Thread nD τ) none) Set.univ
          (k0_part1 i arg1 harg1 arg2 harg2 arg3 harg3 arg4 harg4 arg5 harg5 arg6 harg6 a0 a1 a2 kOne) K := by
  simp only [k0_part1_eq_skeleton]; unfold k0_part1_skel held
  iintro ⟨⟨Hx, Hw⟩, Hk⟩
  sl_exec
  rw [wp_ret, rd0 arg3.view q0, rd0 arg4.view q2, rd1 arg3.view q0, rd1 arg4.view q2, rd2 arg3.view q0, rd2 arg4.view q2, pc1, pc2]
  imodintro
  iapply Hk
  isplitl [Hx]; · iexact Hx
  iexact Hw

theorem part2_wp (K) :
    held c arg3 arg4 q0 q2 ∗ (held c arg3 arg4 q0 q2 -∗ K ⟨acc (qrc q0 q2 a0 a1 a2) 4, acc (rc q0 q2 a0 a1 a2) 5, qrc q0 q2 a0 a1 a2 4⟩)
      ⊢ wp frame (wpE (defs₀ (F := F)) 𝒱₀ (c : Thread nD τ) none) Set.univ
          (k0_part2 i arg1 harg1 arg2 harg2 arg3 harg3 arg4 harg4 arg5 harg5 arg6 harg6 a0 a1 a2 kOne (acc (rc q0 q2 a0 a1 a2) 2) (acc (qrc q0 q2 a0 a1 a2) 2) (chunk q2 2) (k0_pay7 a0 (chunk q0 2))) K := by
  simp only [k0_part2_eq_skeleton]; unfold k0_part2_skel held
  iintro ⟨⟨Hx, Hw⟩, Hk⟩
  sl_exec
  rw [wp_ret, rd3 arg3.view q0, rd3 arg4.view q2, rd4 arg3.view q0, rd4 arg4.view q2, pc3, pc4, pc5]
  imodintro
  iapply Hk
  isplitl [Hx]; · iexact Hx
  iexact Hw

theorem part3_wp (K) :
    held c arg3 arg4 q0 q2 ∗ (held c arg3 arg4 q0 q2 -∗ K ⟨acc (rc q0 q2 a0 a1 a2) 7, acc (qrc q0 q2 a0 a1 a2) 7, chunk q2 7, k0_pay18 a0 (chunk q0 7)⟩)
      ⊢ wp frame (wpE (defs₀ (F := F)) 𝒱₀ (c : Thread nD τ) none) Set.univ
          (k0_part3 i arg1 harg1 arg2 harg2 arg3 harg3 arg4 harg4 arg5 harg5 arg6 harg6 a0 a1 a2 kOne (acc (qrc q0 q2 a0 a1 a2) 4) (acc (rc q0 q2 a0 a1 a2) 5) (qrc q0 q2 a0 a1 a2 4)) K := by
  simp only [k0_part3_eq_skeleton]; unfold k0_part3_skel held
  iintro ⟨⟨Hx, Hw⟩, Hk⟩
  sl_exec
  rw [wp_ret, rd5 arg3.view q0, rd5 arg4.view q2, rd6 arg3.view q0, rd6 arg4.view q2, rd7 arg3.view q0, rd7 arg4.view q2, pc6, pc7]
  imodintro
  iapply Hk
  isplitl [Hx]; · iexact Hx
  iexact Hw

theorem part4_wp (K) :
    held c arg3 arg4 q0 q2 ∗ (held c arg3 arg4 q0 q2 -∗ K ⟨acc (qrc q0 q2 a0 a1 a2) 9, acc (rc q0 q2 a0 a1 a2) 10, qrc q0 q2 a0 a1 a2 9⟩)
      ⊢ wp frame (wpE (defs₀ (F := F)) 𝒱₀ (c : Thread nD τ) none) Set.univ
          (k0_part4 i arg1 harg1 arg2 harg2 arg3 harg3 arg4 harg4 arg5 harg5 arg6 harg6 a0 a1 a2 kOne (acc (rc q0 q2 a0 a1 a2) 7) (acc (qrc q0 q2 a0 a1 a2) 7) (chunk q2 7) (k0_pay18 a0 (chunk q0 7))) K := by
  simp only [k0_part4_eq_skeleton]; unfold k0_part4_skel held
  iintro ⟨⟨Hx, Hw⟩, Hk⟩
  sl_exec
  rw [wp_ret, rd8 arg3.view q0, rd8 arg4.view q2, rd9 arg3.view q0, rd9 arg4.view q2, pc8, pc9, pc10]
  imodintro
  iapply Hk
  isplitl [Hx]; · iexact Hx
  iexact Hw

theorem part5_wp (K) :
    held c arg3 arg4 q0 q2 ∗ (held c arg3 arg4 q0 q2 -∗ K ⟨acc (rc q0 q2 a0 a1 a2) 12, acc (qrc q0 q2 a0 a1 a2) 12, chunk q2 12, k0_pay29 a0 (chunk q0 12)⟩)
      ⊢ wp frame (wpE (defs₀ (F := F)) 𝒱₀ (c : Thread nD τ) none) Set.univ
          (k0_part5 i arg1 harg1 arg2 harg2 arg3 harg3 arg4 harg4 arg5 harg5 arg6 harg6 a0 a1 a2 kOne (acc (qrc q0 q2 a0 a1 a2) 9) (acc (rc q0 q2 a0 a1 a2) 10) (qrc q0 q2 a0 a1 a2 9)) K := by
  simp only [k0_part5_eq_skeleton]; unfold k0_part5_skel held
  iintro ⟨⟨Hx, Hw⟩, Hk⟩
  sl_exec
  rw [wp_ret, rd10 arg3.view q0, rd10 arg4.view q2, rd11 arg3.view q0, rd11 arg4.view q2, rd12 arg3.view q0, rd12 arg4.view q2, pc11, pc12]
  imodintro
  iapply Hk
  isplitl [Hx]; · iexact Hx
  iexact Hw

theorem part6_wp (K) :
    held c arg3 arg4 q0 q2 ∗ (held c arg3 arg4 q0 q2 -∗ K ⟨acc (qrc q0 q2 a0 a1 a2) 14, acc (rc q0 q2 a0 a1 a2) 15, qrc q0 q2 a0 a1 a2 14⟩)
      ⊢ wp frame (wpE (defs₀ (F := F)) 𝒱₀ (c : Thread nD τ) none) Set.univ
          (k0_part6 i arg1 harg1 arg2 harg2 arg3 harg3 arg4 harg4 arg5 harg5 arg6 harg6 a0 a1 a2 kOne (acc (rc q0 q2 a0 a1 a2) 12) (acc (qrc q0 q2 a0 a1 a2) 12) (chunk q2 12) (k0_pay29 a0 (chunk q0 12))) K := by
  simp only [k0_part6_eq_skeleton]; unfold k0_part6_skel held
  iintro ⟨⟨Hx, Hw⟩, Hk⟩
  sl_exec
  rw [wp_ret, rd13 arg3.view q0, rd13 arg4.view q2, rd14 arg3.view q0, rd14 arg4.view q2, pc13, pc14, pc15]
  imodintro
  iapply Hk
  isplitl [Hx]; · iexact Hx
  iexact Hw

/-- The two scales' buffers, at any contents. -/
def cols : sProp 𝕄 :=
  iprop((arg5.view.loc (c : Thread nD τ) ↦[arg5.view.set]{fullShare} f5) ∗ (arg6.view.loc (c : Thread nD τ) ↦[arg6.view.set]{fullShare} f6))

/-- A column written whole. -/
abbrev col (v : View sig .tc .vmem S128x1 .f32) (f : v.ty.Contents (Elt F)) (a : Vec F S128x1 .f32) : v.ty.Contents (Elt F) :=
  v.writes (Elt F) f [⟨Rect.unit (s := S128x1) ![0, 0] S128x1.size inb_S128x1_S128x1_0_0, a⟩]

theorem part7_wp (L : List (View.Piece (Elt F) S128x1 .f32)) (K) :
    held c arg3 arg4 q0 q2 ∗ cols c arg5 arg6 (arg5.view.writes (Elt F) f5 L) f6 ∗ (held c arg3 arg4 q0 q2 ∗ cols c arg5 arg6 (arg5.view.writes (Elt F) f5 (⟨Rect.unit (s := S128x1) ![0, 0] S128x1.size inb_S128x1_S128x1_0_0, next0 q0 q2 a0 a1 a2⟩ :: L)) f6
        -∗ K (next2 q0 q2 a0 a1 a2))
      ⊢ wp frame (wpE (defs₀ (F := F)) 𝒱₀ (c : Thread nD τ) none) Set.univ
          (k0_part7 i arg1 harg1 arg2 harg2 arg3 harg3 arg4 harg4 arg5 harg5 arg6 harg6 a0 a1 a2 kOne kTop kAll kTop) K := by
  simp only [k0_part7_eq_skeleton]; unfold k0_part7_skel
  simp only [wp_bind]
  iintro ⟨Hh, Hc, Hk⟩
  iapply (part1_wp c i arg1 harg1 arg2 harg2 arg3 harg3 arg4 harg4 arg5 harg5 arg6 harg6 q0 q2 a0 a1 a2)
  isplitl [Hh]; · iexact Hh
  iintro Hh
  iapply (part2_wp c i arg1 harg1 arg2 harg2 arg3 harg3 arg4 harg4 arg5 harg5 arg6 harg6 q0 q2 a0 a1 a2)
  isplitl [Hh]; · iexact Hh
  iintro Hh
  iapply (part3_wp c i arg1 harg1 arg2 harg2 arg3 harg3 arg4 harg4 arg5 harg5 arg6 harg6 q0 q2 a0 a1 a2)
  isplitl [Hh]; · iexact Hh
  iintro Hh
  iapply (part4_wp c i arg1 harg1 arg2 harg2 arg3 harg3 arg4 harg4 arg5 harg5 arg6 harg6 q0 q2 a0 a1 a2)
  isplitl [Hh]; · iexact Hh
  iintro Hh
  iapply (part5_wp c i arg1 harg1 arg2 harg2 arg3 harg3 arg4 harg4 arg5 harg5 arg6 harg6 q0 q2 a0 a1 a2)
  isplitl [Hh]; · iexact Hh
  iintro Hh
  iapply (part6_wp c i arg1 harg1 arg2 harg2 arg3 harg3 arg4 harg4 arg5 harg5 arg6 harg6 q0 q2 a0 a1 a2)
  isplitl [Hh]; · iexact Hh
  iintro Hh
  unfold held cols
  icases Hh with ⟨Hx, Hw⟩
  icases Hc with ⟨H5, H6⟩
  sl_exec
  unfold part7_wp.sl.r part7_wp.sl.r_1
  rw [wp_ret, rd15 arg3.view q0, rd15 arg4.view q2, pc16, pc17, st1_eq]
  imodintro
  iapply Hk
  isplitl [Hx Hw]
  · isplitl [Hx]; · iexact Hx
    iexact Hw
  isplitl [H5]; · iexact H5
  iexact H6

/-! ## The output -/

/-- The planes held, and the first `n` chunks of the output stored. -/
def giving (n : ℕ) : sProp 𝕄 :=
  iprop((arg3.view.loc (c : Thread nD τ) ↦[arg3.view.set]{fullShare} arg3.view.rep q0)
    ∗ (arg4.view.loc (c : Thread nD τ) ↦[arg4.view.set]{fullShare} arg4.view.rep q2)
    ∗ (arg2.view.loc (c : Thread nD τ) ↦[arg2.view.set]{fullShare} arg2.view.writes (Elt F) f2 (pieces (outB a0 a1 a2 b0 b2 q0 q2) n)))

theorem part23_wp (K) :
    giving c arg2 arg3 arg4 q0 q2 a0 a1 a2 b0 b2 f2 0 ∗ (giving c arg2 arg3 arg4 q0 q2 a0 a1 a2 b0 b2 f2 2 -∗ K ⟨k0_pay186 a0 a1 a2 (chunk q0 2) (chunk q2 2), k0_pay187 b2 (chunk q2 2), k0_pay188 b0 (chunk q0 2)⟩)
      ⊢ wp frame (wpE (defs₀ (F := F)) 𝒱₀ (c : Thread nD τ) none) Set.univ
          (k0_part23 i arg1 harg1 arg2 harg2 arg3 harg3 arg4 harg4 arg5 harg5 arg6 harg6 a0 a1 a2 b0 b2 (chunk q0 0) (chunk q2 0) (k0_pay182 a0 a1 (chunk q0 0)) (k0_pay183 a2 (chunk q2 0))) K := by
  simp only [k0_part23_eq_skeleton]; unfold k0_part23_skel giving
  iintro ⟨⟨Hx, Hw, H2⟩, Hk⟩
  sl_exec
  rw [wp_ret, rd1 arg3.view q0, rd1 arg4.view q2, rd2 arg3.view q0, rd2 arg4.view q2, pd1, pd2, oc_eq q0 q2 a0 a1 a2 b0 b2 0, oc_eq q0 q2 a0 a1 a2 b0 b2 1]
  imodintro
  iapply Hk
  isplitl [Hx]; · iexact Hx
  isplitl [Hw]; · iexact Hw
  iexact H2

theorem part24_wp (K) :
    giving c arg2 arg3 arg4 q0 q2 a0 a1 a2 b0 b2 f2 2 ∗ (giving c arg2 arg3 arg4 q0 q2 a0 a1 a2 b0 b2 f2 5 -∗ K PUnit.unit)
      ⊢ wp frame (wpE (defs₀ (F := F)) 𝒱₀ (c : Thread nD τ) none) Set.univ
          (k0_part24 i arg1 harg1 arg2 harg2 arg3 harg3 arg4 harg4 arg5 harg5 arg6 harg6 a0 a1 a2 b0 b2 (k0_pay186 a0 a1 a2 (chunk q0 2) (chunk q2 2)) (k0_pay187 b2 (chunk q2 2)) (k0_pay188 b0 (chunk q0 2))) K := by
  simp only [k0_part24_eq_skeleton]; unfold k0_part24_skel giving
  iintro ⟨⟨Hx, Hw, H2⟩, Hk⟩
  sl_exec
  rw [wp_ret, rd3 arg3.view q0, rd3 arg4.view q2, rd4 arg3.view q0, rd4 arg4.view q2, pd3, pd4, pd5, oc_eq q0 q2 a0 a1 a2 b0 b2 2, oc_eq q0 q2 a0 a1 a2 b0 b2 3, oc_eq q0 q2 a0 a1 a2 b0 b2 4]
  imodintro
  iapply Hk
  isplitl [Hx]; · iexact Hx
  isplitl [Hw]; · iexact Hw
  iexact H2

theorem part25_wp (K) :
    giving c arg2 arg3 arg4 q0 q2 a0 a1 a2 b0 b2 f2 5 ∗ (giving c arg2 arg3 arg4 q0 q2 a0 a1 a2 b0 b2 f2 7 -∗ K ⟨chunk q0 7, chunk q2 7, k0_pay194 a0 a1 (chunk q0 7)⟩)
      ⊢ wp frame (wpE (defs₀ (F := F)) 𝒱₀ (c : Thread nD τ) none) Set.univ
          (k0_part25 i arg1 harg1 arg2 harg2 arg3 harg3 arg4 harg4 arg5 harg5 arg6 harg6 a0 a1 a2 b0 b2) K := by
  simp only [k0_part25_eq_skeleton]; unfold k0_part25_skel giving
  iintro ⟨⟨Hx, Hw, H2⟩, Hk⟩
  sl_exec
  rw [wp_ret, rd5 arg3.view q0, rd5 arg4.view q2, rd6 arg3.view q0, rd6 arg4.view q2, rd7 arg3.view q0, rd7 arg4.view q2, pd6, pd7, oc_eq q0 q2 a0 a1 a2 b0 b2 5, oc_eq q0 q2 a0 a1 a2 b0 b2 6]
  imodintro
  iapply Hk
  isplitl [Hx]; · iexact Hx
  isplitl [Hw]; · iexact Hw
  iexact H2

theorem part26_wp (K) :
    giving c arg2 arg3 arg4 q0 q2 a0 a1 a2 b0 b2 f2 7 ∗ (giving c arg2 arg3 arg4 q0 q2 a0 a1 a2 b0 b2 f2 9 -∗ K ⟨chunk q0 9, k0_pay197 a0 a1 a2 (chunk q0 9) (chunk q2 9), k0_pay198 b2 (chunk q2 9)⟩)
      ⊢ wp frame (wpE (defs₀ (F := F)) 𝒱₀ (c : Thread nD τ) none) Set.univ
          (k0_part26 i arg1 harg1 arg2 harg2 arg3 harg3 arg4 harg4 arg5 harg5 arg6 harg6 a0 a1 a2 b0 b2 (chunk q0 7) (chunk q2 7) (k0_pay194 a0 a1 (chunk q0 7))) K := by
  simp only [k0_part26_eq_skeleton]; unfold k0_part26_skel giving
  iintro ⟨⟨Hx, Hw, H2⟩, Hk⟩
  sl_exec
  rw [wp_ret, rd8 arg3.view q0, rd8 arg4.view q2, rd9 arg3.view q0, rd9 arg4.view q2, pd8, pd9, oc_eq q0 q2 a0 a1 a2 b0 b2 7, oc_eq q0 q2 a0 a1 a2 b0 b2 8]
  imodintro
  iapply Hk
  isplitl [Hx]; · iexact Hx
  isplitl [Hw]; · iexact Hw
  iexact H2

theorem part27_wp (K) :
    giving c arg2 arg3 arg4 q0 q2 a0 a1 a2 b0 b2 f2 9 ∗ (giving c arg2 arg3 arg4 q0 q2 a0 a1 a2 b0 b2 f2 12 -∗ K PUnit.unit)
      ⊢ wp frame (wpE (defs₀ (F := F)) 𝒱₀ (c : Thread nD τ) none) Set.univ
          (k0_part27 i arg1 harg1 arg2 harg2 arg3 harg3 arg4 harg4 arg5 harg5 arg6 harg6 a0 a1 a2 b0 b2 (chunk q0 9) (k0_pay197 a0 a1 a2 (chunk q0 9) (chunk q2 9)) (k0_pay198 b2 (chunk q2 9))) K := by
  simp only [k0_part27_eq_skeleton]; unfold k0_part27_skel giving
  iintro ⟨⟨Hx, Hw, H2⟩, Hk⟩
  sl_exec
  rw [wp_ret, rd10 arg3.view q0, rd10 arg4.view q2, rd11 arg3.view q0, rd11 arg4.view q2, pd10, pd11, pd12, oc_eq q0 q2 a0 a1 a2 b0 b2 9, oc_eq q0 q2 a0 a1 a2 b0 b2 10, oc_eq q0 q2 a0 a1 a2 b0 b2 11]
  imodintro
  iapply Hk
  isplitl [Hx]; · iexact Hx
  isplitl [Hw]; · iexact Hw
  iexact H2

theorem part28_wp (K) :
    giving c arg2 arg3 arg4 q0 q2 a0 a1 a2 b0 b2 f2 12 ∗ (giving c arg2 arg3 arg4 q0 q2 a0 a1 a2 b0 b2 f2 14 -∗ K ⟨chunk q0 14, chunk q2 14, k0_pay204 a0 (chunk q0 14)⟩)
      ⊢ wp frame (wpE (defs₀ (F := F)) 𝒱₀ (c : Thread nD τ) none) Set.univ
          (k0_part28 i arg1 harg1 arg2 harg2 arg3 harg3 arg4 harg4 arg5 harg5 arg6 harg6 a0 a1 a2 b0 b2) K := by
  simp only [k0_part28_eq_skeleton]; unfold k0_part28_skel giving
  iintro ⟨⟨Hx, Hw, H2⟩, Hk⟩
  sl_exec
  rw [wp_ret, rd12 arg3.view q0, rd12 arg4.view q2, rd13 arg3.view q0, rd13 arg4.view q2, rd14 arg3.view q0, rd14 arg4.view q2, pd13, pd14, oc_eq q0 q2 a0 a1 a2 b0 b2 12, oc_eq q0 q2 a0 a1 a2 b0 b2 13]
  imodintro
  iapply Hk
  isplitl [Hx]; · iexact Hx
  isplitl [Hw]; · iexact Hw
  iexact H2

end Cert.KernelIdeal.Stk

end
-- ==== Proof.KI.Body.lean ====
/-
  The kernel's body at one grid point: holding its scores' block at `x` and the other buffers at anything, it leaves the
  output's block at `result x` and the rest at something.
-/
module

public import proofs.«01_k».proof.Proof.KI.Parts
public import Idealize.ShloMosaic.Lib.VecWindow

@[expose] public section

set_option maxRecDepth 16384

noncomputable section

namespace Cert.KernelIdeal.Stk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S128x4096 .f32) (harg1 : arg1.IsWhole)
  (arg2 : Memref sig .tc .vmem S128x4096 .f32) (harg2 : arg2.IsWhole)
  (arg3 : Memref sig .tc .vmem S128x4096 .f32) (harg3 : arg3.IsWhole)
  (arg4 : Memref sig .tc .vmem S128x4096 .f32) (harg4 : arg4.IsWhole)
  (arg5 : Memref sig .tc .vmem S128x1 .f32) (harg5 : arg5.IsWhole)
  (arg6 : Memref sig .tc .vmem S128x1 .f32) (harg6 : arg6.IsWhole)
  (x : VB F)

theorem test_word (a : BitVec 1) : Scalar.cmpi .ne (Scalar.extui a : BitVec 32) 0#32 = a := by revert a; decide

/-- A column read back after it was stored. -/
theorem rd_cov (v : View sig .tc .vmem S128x1 .f32) (a : Vec F S128x1 .f32) (L : List (View.Piece (Elt F) S128x1 .f32)) :
    v.readCov (⟨Rect.unit (s := S128x1) ![0, 0] S128x1.size inb_S128x1_S128x1_0_0, a⟩ :: L) (Rect.unit (s := S128x1) ![0, 0] S128x1.size inb_S128x1_S128x1_0_0).toLoadRect = a :=
  rd_col v v.junk a L

/-- Sixteen stored chunks of a block hold the block. -/
theorem rep_of_writes (m : Memref sig .tc .vmem S128x4096 .f32) (f : m.view.ty.Contents (Elt F)) (H : VB F) :
    (m.view.loc (c : Thread nD τ) ↦[m.view.set]{fullShare} m.view.writes (Elt F) f (pieces H 16) : sProp 𝕄)
      ⊢ m.view.loc (c : Thread nD τ) ↦[m.view.set]{fullShare} m.view.rep H := by
  have h := read_pieces m.view f H
  generalize m.view.writes (Elt F) f (pieces H 16) = g at h ⊢
  exact pointsTo_rep_of_read (c : Thread nD τ) m g fullShare H h

/-- The planes held at the block's, and the two scales' buffers at something. -/
def mid (f5 : arg5.view.ty.Contents (Elt F)) (f6 : arg6.view.ty.Contents (Elt F)) : sProp 𝕄 :=
  iprop(held c arg3 arg4 (Q0 x) (Q2 x) ∗ cols c arg5 arg6 f5 f6)

set_option maxHeartbeats 800000 in
theorem part22_wp (f5 f6) (K) :
    mid c arg3 arg4 arg5 arg6 x f5 f6 ∗ (∀ f5, ∀ f6, mid c arg3 arg4 arg5 arg6 x f5 f6
        -∗ K ⟨(done x).a0, (done x).a1, (done x).a2, out0 x, out2 x, chunk (Q0 x) 0, chunk (Q2 x) 0,
          k0_pay182 (done x).a0 (done x).a1 (chunk (Q0 x) 0), k0_pay183 (done x).a2 (chunk (Q2 x) 0)⟩)
      ⊢ wp frame (wpE (defs₀ (F := F)) 𝒱₀ (c : Thread nD τ) none) Set.univ
          (k0_part22 i arg1 harg1 arg2 harg2 arg3 harg3 arg4 harg4 arg5 harg5 arg6 harg6 (first1 x) (first2 x) k0_pay174 (k0_pay175 (slope x) (off0 x) (off2 x) (acc (rf x) 15) (chunk x 15)) kOne) K := by
  simp only [k0_part22_eq_skeleton]; unfold k0_part22_skel
  rw [pb73, pb74, pb75]
  unfold mid
  simp only [wp_bind]
  iintro ⟨⟨Hh, Hc⟩, Hk⟩
  iapply (wp_call_spec 𝒱₀ (c : Thread nD τ) none Set.univ (spec c arg3 arg4 (Q0 x) (Q2 x) 198 (enter x)) 198
    (fun u hu => nomatch hu) (spec_le c i arg3 harg3 arg4 harg4 (Q0 x) (Q2 x) Set.univ 198 le_rfl (enter x)))
  rw [spec_apply]
  isplitl [Hh]; · iexact Hh
  iintro %n Hh
  have hd : loop (Q0 x) (Q2 x) 198 (enter x) = done x := rfl
  rw [hd, wp_ret]
  imodintro
  dsimp only
  unfold cols
  icases Hc with ⟨H5, H6⟩
  rw [test_word]
  by_cases hm : moves (done x).d
  · have hm' := hm
    unfold moves k32 at hm'
    simp only [out0, out2, if_pos hm]
    rw [if_pos hm']
    clear hm hd
    generalize done x = s at hm' ⊢
    generalize Q0 x = q0
    generalize Q2 x = q2
    simp only [wp_bind]
    generalize hp : k0_part7 i arg1 harg1 arg2 harg2 arg3 harg3 arg4 harg4 arg5 harg5 arg6 harg6 s.a0 s.a1 s.a2 _ _ _ _ = p
    sl_exec
    rw [pb76, pb77, st1_eq, st1_eq, ← hp]
    iapply (part7_wp c i arg1 harg1 arg2 harg2 arg3 harg3 arg4 harg4 arg5 harg5 arg6 harg6 (q0 := q0) (q2 := q2) (a0 := s.a0) (a1 := s.a1) (a2 := s.a2))
    unfold cols
    isplitl [Hh]; · iexact Hh
    isplitl [H5 H6]
    · isplitl [H5]; · iexact H5
      iexact H6
    iintro ⟨Hh, H5, H6⟩
    unfold held
    icases Hh with ⟨Hx, Hw⟩
    sl_exec
    unfold part22_wp.sl.v part22_wp.sl.v_1 part22_wp.sl.r_2 part22_wp.sl.r_3 part22_wp.sl.H6_2
    rw [wp_ret, rd_cov, pb78, st1_eq, rd_cov, rd0 arg3.view q0, rd0 arg4.view q2]
    imodintro
    iapply Hk
    isplitl [Hx Hw]
    · isplitl [Hx]; · iexact Hx
      iexact Hw
    isplitl [H5]; · iexact H5
    iexact H6
  · have hm' := hm
    unfold moves k32 at hm'
    simp only [out0, out2, if_neg hm]
    rw [if_neg hm']
    clear hm hd
    generalize done x = s at hm' ⊢
    generalize Q0 x = q0
    generalize Q2 x = q2
    simp only [wp_bind]
    unfold held
    icases Hh with ⟨Hx, Hw⟩
    sl_exec
    unfold part22_wp.sl.v_2 part22_wp.sl.v_3 part22_wp.sl.r_6 part22_wp.sl.r_7 part22_wp.sl.H5_1 part22_wp.sl.H6_1
    rw [wp_ret, pb76, pb77, st1_eq, st1_eq, rd_cov, rd_cov, rd0 arg3.view q0, rd0 arg4.view q2]
    imodintro
    iapply Hk
    isplitl [Hx Hw]
    · isplitl [Hx]; · iexact Hx
      iexact Hw
    isplitl [H5]; · iexact H5
    iexact H6

/-- The scores, the planes being filled, the two columns and the output's buffer. -/
def whole (f5 : arg5.view.ty.Contents (Elt F)) (f6 : arg6.view.ty.Contents (Elt F)) (f2 : arg2.view.ty.Contents (Elt F)) (f3 : arg3.view.ty.Contents (Elt F)) (f4 : arg4.view.ty.Contents (Elt F)) : sProp 𝕄 :=
  iprop(scores c arg1 x ∗ (arg2.view.loc (c : Thread nD τ) ↦[arg2.view.set]{fullShare} f2)
    ∗ (arg3.view.loc (c : Thread nD τ) ↦[arg3.view.set]{fullShare} f3) ∗ (arg4.view.loc (c : Thread nD τ) ↦[arg4.view.set]{fullShare} f4)
    ∗ cols c arg5 arg6 f5 f6)

/-- What the body leaves: the scores, the result, and something in each scratch. -/
def left : sProp 𝕄 :=
  iprop(scores c arg1 x ∗ held c arg3 arg4 (Q0 x) (Q2 x) ∗ (∃ f5, ∃ f6, cols c arg5 arg6 f5 f6)
    ∗ (arg2.view.loc (c : Thread nD τ) ↦[arg2.view.set]{fullShare} arg2.view.rep (result x)))

set_option maxHeartbeats 1600000 in
/-- The whole body: it leaves the result in the output's buffer. -/
theorem body_wp (f5 f6 f2 f3 f4) (K : PUnit → sProp 𝕄) :
    whole c arg1 arg2 arg3 arg4 arg5 arg6 x f5 f6 f2 f3 f4 ∗ (left c arg1 arg2 arg3 arg4 arg5 arg6 x -∗ K PUnit.unit)
      ⊢ wp frame (wpE (defs₀ (F := F)) 𝒱₀ (c : Thread nD τ) none) Set.univ
          (cc0__stk_kernel i arg1 harg1 arg2 harg2 arg3 harg3 arg4 harg4 arg5 harg5 arg6 harg6) K := by
  rw [cc0__stk_kernel_eq_skeleton]; unfold cc0__stk_kernel_skel whole left
  rw [k0_part29_eq_skeleton]; unfold k0_part29_skel
  simp only [wp_bind]
  iintro ⟨⟨H1, H2, H3, H4, Hc⟩, Hk⟩
  iapply (part8_wp c i arg1 harg1 arg2 harg2 arg3 harg3 arg4 harg4 arg5 harg5 arg6 harg6 (x := x))
  isplitl [H1]; · iexact H1
  iintro H1
  iapply (part9_wp c i arg1 harg1 arg2 harg2 arg3 harg3 arg4 harg4 arg5 harg5 arg6 harg6 (x := x))
  isplitl [H1]; · iexact H1
  iintro H1
  iapply (part10_wp c i arg1 harg1 arg2 harg2 arg3 harg3 arg4 harg4 arg5 harg5 arg6 harg6 (x := x))
  isplitl [H1]; · iexact H1
  iintro H1
  iapply (part11_wp c i arg1 harg1 arg2 harg2 arg3 harg3 arg4 harg4 arg5 harg5 arg6 harg6 (x := x) (f3 := f3) (f4 := f4))
  isplitl [H1 H3 H4]
  · unfold filling scores
    isplitl [H1]; · iexact H1
    isplitl [H3]; · iexact H3
    iexact H4
  iintro H
  iapply (part12_wp c i arg1 harg1 arg2 harg2 arg3 harg3 arg4 harg4 arg5 harg5 arg6 harg6 (x := x) (f3 := f3) (f4 := f4))
  isplitl [H]; · iexact H
  iintro H
  iapply (part13_wp c i arg1 harg1 arg2 harg2 arg3 harg3 arg4 harg4 arg5 harg5 arg6 harg6 (x := x) (f3 := f3) (f4 := f4))
  isplitl [H]; · iexact H
  iintro H
  iapply (part14_wp c i arg1 harg1 arg2 harg2 arg3 harg3 arg4 harg4 arg5 harg5 arg6 harg6 (x := x) (f3 := f3) (f4 := f4))
  isplitl [H]; · iexact H
  iintro H
  iapply (part15_wp c i arg1 harg1 arg2 harg2 arg3 harg3 arg4 harg4 arg5 harg5 arg6 harg6 (x := x) (f3 := f3) (f4 := f4))
  isplitl [H]; · iexact H
  iintro H
  iapply (part16_wp c i arg1 harg1 arg2 harg2 arg3 harg3 arg4 harg4 arg5 harg5 arg6 harg6 (x := x) (f3 := f3) (f4 := f4))
  isplitl [H]; · iexact H
  iintro H
  iapply (part17_wp c i arg1 harg1 arg2 harg2 arg3 harg3 arg4 harg4 arg5 harg5 arg6 harg6 (x := x) (f3 := f3) (f4 := f4))
  isplitl [H]; · iexact H
  iintro H
  iapply (part18_wp c i arg1 harg1 arg2 harg2 arg3 harg3 arg4 harg4 arg5 harg5 arg6 harg6 (x := x) (f3 := f3) (f4 := f4))
  isplitl [H]; · iexact H
  iintro H
  iapply (part19_wp c i arg1 harg1 arg2 harg2 arg3 harg3 arg4 harg4 arg5 harg5 arg6 harg6 (x := x) (f3 := f3) (f4 := f4))
  isplitl [H]; · iexact H
  iintro H
  iapply (part20_wp c i arg1 harg1 arg2 harg2 arg3 harg3 arg4 harg4 arg5 harg5 arg6 harg6 (x := x) (f3 := f3) (f4 := f4))
  isplitl [H]; · iexact H
  iintro H
  iapply (part21_wp c i arg1 harg1 arg2 harg2 arg3 harg3 arg4 harg4 arg5 harg5 arg6 harg6 (x := x) (f3 := f3) (f4 := f4))
  isplitl [H]; · iexact H
  iintro H
  unfold filling
  icases H with ⟨H1, H3, H4⟩
  ihave H3 := rep_of_writes c arg3 f3 (Q0 x) $$ H3
  ihave H4 := rep_of_writes c arg4 f4 (Q2 x) $$ H4
  iapply (part22_wp c i arg1 harg1 arg2 harg2 arg3 harg3 arg4 harg4 arg5 harg5 arg6 harg6 (x := x) (f5 := f5) (f6 := f6))
  unfold mid
  isplitl [H3 H4 Hc]
  · isplitl [H3 H4]
    · unfold held
      isplitl [H3]; · iexact H3
      iexact H4
    iexact Hc
  iintro %g5 %g6 ⟨Hh, Hc⟩
  dsimp only
  iapply (part23_wp c i arg1 harg1 arg2 harg2 arg3 harg3 arg4 harg4 arg5 harg5 arg6 harg6 (q0 := Q0 x) (q2 := Q2 x) (a0 := (done x).a0) (a1 := (done x).a1) (a2 := (done x).a2) (b0 := out0 x) (b2 := out2 x) (f2 := f2))
  unfold giving
  isplitl [Hh H2]
  · unfold held
    icases Hh with ⟨H3, H4⟩
    isplitl [H3]; · iexact H3
    isplitl [H4]; · iexact H4
    iexact H2
  iintro H
  iapply (part24_wp c i arg1 harg1 arg2 harg2 arg3 harg3 arg4 harg4 arg5 harg5 arg6 harg6 (q0 := Q0 x) (q2 := Q2 x) (a0 := (done x).a0) (a1 := (done x).a1) (a2 := (done x).a2) (b0 := out0 x) (b2 := out2 x) (f2 := f2))
  unfold giving
  isplitl [H]; · iexact H
  iintro H
  iapply (part25_wp c i arg1 harg1 arg2 harg2 arg3 harg3 arg4 harg4 arg5 harg5 arg6 harg6 (q0 := Q0 x) (q2 := Q2 x) (a0 := (done x).a0) (a1 := (done x).a1) (a2 := (done x).a2) (b0 := out0 x) (b2 := out2 x) (f2 := f2))
  unfold giving
  isplitl [H]; · iexact H
  iintro H
  iapply (part26_wp c i arg1 harg1 arg2 harg2 arg3 harg3 arg4 harg4 arg5 harg5 arg6 harg6 (q0 := Q0 x) (q2 := Q2 x) (a0 := (done x).a0) (a1 := (done x).a1) (a2 := (done x).a2) (b0 := out0 x) (b2 := out2 x) (f2 := f2))
  unfold giving
  isplitl [H]; · iexact H
  iintro H
  iapply (part27_wp c i arg1 harg1 arg2 harg2 arg3 harg3 arg4 harg4 arg5 harg5 arg6 harg6 (q0 := Q0 x) (q2 := Q2 x) (a0 := (done x).a0) (a1 := (done x).a1) (a2 := (done x).a2) (b0 := out0 x) (b2 := out2 x) (f2 := f2))
  unfold giving
  isplitl [H]; · iexact H
  iintro H
  iapply (part28_wp c i arg1 harg1 arg2 harg2 arg3 harg3 arg4 harg4 arg5 harg5 arg6 harg6 (q0 := Q0 x) (q2 := Q2 x) (a0 := (done x).a0) (a1 := (done x).a1) (a2 := (done x).a2) (b0 := out0 x) (b2 := out2 x) (f2 := f2))
  unfold giving
  isplitl [H]; · iexact H
  iintro H
  icases H with ⟨H3, H4, H2⟩
  dsimp only
  sl_exec
  unfold body_wp.sl.r_2 body_wp.sl.r_3 body_wp.sl.r body_wp.sl.r_1
  rw [wp_ret, rd15 arg3.view (Q0 x), rd15 arg4.view (Q2 x), pd15, pd16, oc_eq _ _ _ _ _ _ _ 14, oc_eq _ _ _ _ _ _ _ 15]
  imodintro
  iapply Hk
  unfold scores held
  isplitl [H1]; · iexact H1
  isplitl [H3 H4]
  · isplitl [H3]; · iexact H3
    iexact H4
  isplitl [Hc]
  · iexists g5; iexists g6; iexact Hc
  iapply (rep_of_writes c arg2 f2 (result x))
  iexact H2

end Cert.KernelIdeal.Stk

end
-- ==== Proof.KI.Run.lean ====
/-
The launch: the four blocks of 128 rows run one after the other, each leaves the result of its own rows in its own
block of the output, so the output's array is known row by row; the scores' array is left as it was.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KI.Body
public import Idealize.ShloMosaic.Lib.Pipeline.FrameBody
public import Idealize.ShloMosaic.Lib.Pipeline.ValueKit
public import Idealize.ShloMosaic.Lib.Pipeline.TableIdle
public import Idealize.ShloMosaic.Lib.Ring
public import Idealize.ShloMosaic.Lib.Tactic
public import Idealize.ShloMosaic.Lib.Claim

@[expose] public section

set_option maxRecDepth 16384

noncomputable section

namespace Cert.KernelIdeal.Stk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- The buffers of core `c` at the region's entry: as they were at the launch. -/
abbrev V (c : Dev nD) (b : Ref sig .tc) : Buf (Elt F) ((c : Thread nD τ).loc b) := m ((c : Thread nD τ).loc b)

set_option maxHeartbeats 800000 in
/-- The program is its one region. -/
theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The scores' staging buffer holds the point's block. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffers a point runs on. -/
abbrev ms0 (t : Fin (cfg0 (F := F)).N) : Memref sig .tc .vmem S128x4096 .f32 := win0_0.stage ((cfg0 (F := F)).slots t 0)
abbrev ms1 (t : Fin (cfg0 (F := F)).N) : Memref sig .tc .vmem S128x4096 .f32 := win0_1.stage ((cfg0 (F := F)).slots t 1)
/-- The scratch buffers: the two planes and the two columns. -/
abbrev scP0 : Memref sig .tc .vmem S128x4096 .f32 := Memref.whole cc0_scratch0
abbrev scP2 : Memref sig .tc .vmem S128x4096 .f32 := Memref.whole cc0_scratch1
abbrev scC0 : Memref sig .tc .vmem S128x1 .f32 := Memref.whole cc0_scratch2
abbrev scC2 : Memref sig .tc .vmem S128x1 .f32 := Memref.whole cc0_scratch3

/-- What the launch keeps between points: the scratch buffers at some contents, and the generator's register. -/
theorem kept_eq (c : Dev nD) :
    (Pipeline.ΦA spec0 c : sProp 𝕄)
      = iprop(iprop((∃ d, owns (c : Thread nD τ) scP0 fullShare d) ∗ (∃ d, owns (c : Thread nD τ) scP2 fullShare d)
          ∗ (∃ d, owns (c : Thread nD τ) scC0 fullShare d) ∗ (∃ d, owns (c : Thread nD τ) scC2 fullShare d)) ∗ (∃ r, prngReg c r)) := by
  unfold Pipeline.ΦA; rw [scopedRest0_eq]; simp only [scP0, scP2, scC0, scC2, owns_whole]; try rfl

/-! ## The proof data -/

/-- After the body the scores' buffer holds its block and the output's the result of that block. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => result (iblk m c 0 t)
  Φ _ := Pipeline.ΦA spec0 c
  q _ := fullShare
  owed _ := 0

theorem A_eq (c : Dev nD) (w : Fin (cfg0 (F := F)).W) : (dats m 0 c).A w = V m c (Pipeline.arrRef spec0 w) := by dsimp only [dats]

theorem after0 (c : Dev nD) (t : Fin (cfg0 (F := F)).N) : (dats m 0 c).after 0 t = iblk m c 0 t := rfl

theorem after1 (c : Dev nD) (t : Fin (cfg0 (F := F)).N) : (dats m 0 c).after 1 t = result (iblk m c 0 t) := rfl

theorem before0 (c : Dev nD) (t : Fin (cfg0 (F := F)).N) (d) : (dats m 0 c).before 0 t d = iblk m c 0 t :=
  before0_0_of m (dats m 0 c) (A_eq m c 0) (after0 m c) t d

/-! ## The body at a point -/

/-- What the body is called with, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- and what it gives back. -/
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

/-- The body's triple over buffers owned whole. -/
theorem body_owns (c : Dev nD) (i : grid0.Coords) (arg1 : Memref sig .tc .vmem S128x4096 .f32) (harg1 : arg1.IsWhole)
    (arg2 : Memref sig .tc .vmem S128x4096 .f32) (harg2 : arg2.IsWhole) (arg3 : Memref sig .tc .vmem S128x4096 .f32) (harg3 : arg3.IsWhole)
    (arg4 : Memref sig .tc .vmem S128x4096 .f32) (harg4 : arg4.IsWhole) (arg5 : Memref sig .tc .vmem S128x1 .f32) (harg5 : arg5.IsWhole)
    (arg6 : Memref sig .tc .vmem S128x1 .f32) (harg6 : arg6.IsWhole) (x : VB F) (K : PUnit → sProp 𝕄) :
    iprop(owns (c : Thread nD τ) arg1 fullShare x ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d) ∗ (∃ d, owns (c : Thread nD τ) arg6 fullShare d)
        ∗ ((owns (c : Thread nD τ) arg1 fullShare x ∗ owns (c : Thread nD τ) arg2 fullShare (result x) ∗ (∃ d, owns (c : Thread nD τ) arg3 fullShare d)
          ∗ (∃ d, owns (c : Thread nD τ) arg4 fullShare d) ∗ (∃ d, owns (c : Thread nD τ) arg5 fullShare d) ∗ (∃ d, owns (c : Thread nD τ) arg6 fullShare d)) -∗ K PUnit.unit))
      ⊢ wp frame (wpE (defs₀ (F := F)) 𝒱₀ (c : Thread nD τ) none) Set.univ (cc0__stk_kernel i arg1 harg1 arg2 harg2 arg3 harg3 arg4 harg4 arg5 harg5 arg6 harg6) K := by
  simp only [owns_eq_rep]
  iintro ⟨H1, ⟨%d2, H2⟩, ⟨%d3, H3⟩, ⟨%d4, H4⟩, ⟨%d5, H5⟩, ⟨%d6, H6⟩, Hk⟩
  iapply (body_wp c i (x := x))
  unfold whole left cols held scores
  isplitl [H1 H2 H3 H4 H5 H6]
  · isplitl [H1]; · iexact H1
    isplitl [H2]; · iexact H2
    isplitl [H3]; · iexact H3
    isplitl [H4]; · iexact H4
    isplitl [H5]; · iexact H5
    iexact H6
  iintro ⟨H1, ⟨H3, H4⟩, ⟨%f5, %f6, H5, H6⟩, H2⟩
  iapply Hk
  isplitl [H1]; · iexact H1
  isplitl [H2]; · iexact H2
  isplitl [H3]; · iexists _; iexact H3
  isplitl [H4]; · iexists _; iexact H4
  isplitl [H5]
  · iexists (arg5.view.read (Elt F) f5)
    iapply (pointsTo_rep_of_read (c : Thread nD τ) arg5 f5 fullShare _ rfl)
    iexact H5
  iexists (arg6.view.read (Elt F) f6)
  iapply (pointsTo_rep_of_read (c : Thread nD τ) arg6 f6 fullShare _ rfl)
  iexact H6

/-- The body's triple at a point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0]
  rw [show (dats m 0 c).Φ t.succ = (dats m 0 c).Φ t.castSucc from rfl,
    show (dats m 0 c).owesAt () t.succ = (dats m 0 c).owesAt () t.castSucc from rfl, after0, after1]
  rw [show (dats m 0 c).Φ t.castSucc = Pipeline.ΦA spec0 c from rfl, kept_eq]
  iintro ⟨⟨⟨H3, H4, H5, H6⟩, Hg⟩, Ho, ⟨%d0, H1⟩, ⟨%d1, H2⟩⟩
  iapply (body_owns c (grid0.coords t) (x := iblk m c 0 t))
  isplitl [H1]; · iexact H1
  isplitl [H2]; · iexists _; iexact H2
  isplitl [H3]; · iexact H3
  isplitl [H4]; · iexact H4
  isplitl [H5]; · iexact H5
  isplitl [H6]; · iexact H6
  iintro ⟨H1, H2, H3, H4, H5, H6⟩
  isplitl [H3 H4 H5 H6 Hg]
  · isplitl [H3 H4 H5 H6]
    · isplitl [H3]; · iexact H3
      isplitl [H4]; · iexact H4
      isplitl [H5]; · iexact H5
      iexact H6
    iexact Hg
  isplitl [Ho]; · iexact Ho
  isplitl [H1]; · iexact H1
  iexact H2

/-- The body's row of the label table. -/
theorem row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem obligation (c : Dev nD) : BodyObligation (dats (F := F) m 0 c) (defs₀ (F := F)) 𝒱₀ () Set.univ := fun t => by
  rw [bigSep_W0, bigSep_W0, row]
  exact triple_restated (sound_body m c t) rfl .rfl fun _ => .rfl

/-! ## The run -/

set_option backward.isDefEq.respectTransparency.types false in
/-- Every run ends, with every array at what the proof data say and every counter at zero. -/
theorem run_all : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (obligation m c).loose) (hshare := fun c => (dats m 0 c).share_full fun _ => rfl)
    (howed := fun _ _ => rfl) (V := V m) (hmain := hmain m) (hA := A_eq m) (hΦ := fun _ _ => rfl)

/-- The frame: the scores' array ends as it was, every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).1 0).trans ((dats m 0 c).arrAt_in 0 rfl _), h.2⟩) (run_all m ρ)

end Cert.KernelIdeal.Stk

end
-- ==== Proof.KI.Read.lean ====
/- The kernel's operations on a block read at an index, over the extended reals. -/
module

public import proofs.«01_k».proof.Proof.KI.Model
public import Idealize.ShloMosaic.Lib.Pointwise
public import Idealize.ShloMosaic.Lib.IdealHost
public import Idealize.ShloMosaic.PureOps.Ideal.Laws

@[expose] public section

set_option maxRecDepth 16384

noncomputable section

namespace Cert.KernelIdeal.Stk

open Cert.KernelIdeal Cert.KernelIdeal.Gen
open Idealize.ShloMosaic

/-- The column of a block that a chunk holds at a place; the places of a chunk's two halves. -/
abbrev place (k : Fin 16) (c : Fin 256) : Fin 4096 := ⟨256 * k.val + c.val, by omega⟩
abbrev inLeft (c : Fin 128) : Fin 256 := ⟨c.val, by omega⟩
abbrev inRight (c : Fin 128) : Fin 256 := ⟨128 + c.val, by omega⟩

theorem chunk_at (x : VB Ideal) (k : Fin 16) (r : Fin 128) (c : Fin 256) : chunk x k (ix2 r c) = x (ix2 r (place k c)) := by
  unfold chunk
  congr 1
  funext a
  apply Fin.ext
  fin_cases a
  · show 0 + 1 * r.val = r.val; omega
  · show 256 * k.val + 1 * c.val = 256 * k.val + c.val; omega

theorem lo_at (p : VC Ideal) (r c : Fin 128) : lo p (ix2 r c) = p (ix2 r (inLeft c)) := by
  unfold lo
  pointwise
theorem hi_at (p : VC Ideal) (r c : Fin 128) : hi p (ix2 r c) = p (ix2 r (inRight c)) := by
  unfold hi
  pointwise

theorem acc_zero (f : Fin 16 → VC Ideal) (r c : Fin 128) : acc f 0 (ix2 r c) = 0 := by
  unfold acc
  pointwise
theorem acc_succ (f : Fin 16 → VC Ideal) (n : ℕ) (r c : Fin 128) : acc f (n + 1) (ix2 r c)
    = acc f n (ix2 r c) + (lo (f (Fin.ofNat 16 n)) (ix2 r c) + hi (f (Fin.ofNat 16 n)) (ix2 r c)) := rfl
theorem total_at (f : Fin 16 → VC Ideal) (r : Fin 128) : total f (ix2 r 0) = ∑ c : Fin 128, acc f 16 (ix2 r c) := by
  unfold total
  pointwise

theorem accMin_zero (x : VB Ideal) (r c : Fin 128) :
    accMin x 0 (ix2 r c) = min (lo (chunk x 0) (ix2 r c)) (hi (chunk x 0) (ix2 r c)) := rfl
theorem accMin_succ (x : VB Ideal) (n : ℕ) (r c : Fin 128) : accMin x (n + 1) (ix2 r c)
    = min (accMin x n (ix2 r c)) (min (lo (chunk x (Fin.ofNat 16 (n + 1))) (ix2 r c)) (hi (chunk x (Fin.ofNat 16 (n + 1))) (ix2 r c))) := rfl
theorem accMax_zero (x : VB Ideal) (r c : Fin 128) :
    accMax x 0 (ix2 r c) = max (lo (chunk x 0) (ix2 r c)) (hi (chunk x 0) (ix2 r c)) := rfl
theorem accMax_succ (x : VB Ideal) (n : ℕ) (r c : Fin 128) : accMax x (n + 1) (ix2 r c)
    = max (accMax x n (ix2 r c)) (max (lo (chunk x (Fin.ofNat 16 (n + 1))) (ix2 r c)) (hi (chunk x (Fin.ofNat 16 (n + 1))) (ix2 r c))) := rfl

theorem rowMin_at (x : VB Ideal) (r : Fin 128) :
    rowMin x (ix2 r 0) = Finset.univ.fold min (Ideal.ofBits .f32 0x7F800000#32) fun c : Fin 128 => accMin x 15 (ix2 r c) := by
  unfold rowMin
  pointwise
theorem rowMax_at (x : VB Ideal) (r : Fin 128) :
    rowMax x (ix2 r 0) = Finset.univ.fold max (Ideal.ofBits .f32 0xFF800000#32) fun c : Fin 128 => accMax x 15 (ix2 r c) := by
  unfold rowMax rowMax'
  pointwise

theorem slope_at (x : VB Ideal) (r : Fin 128) : slope x (ix2 r 0)
    = Ideal.div (Ideal.ofBits .f32 0x41200000#32) (rowMax x (ix2 r 0) - rowMin x (ix2 r 0) + Ideal.ofBits .f32 0x2B8CBCCC#32) := by
  unfold slope
  pointwise
theorem off0_at (x : VB Ideal) (r : Fin 128) : off0 x (ix2 r 0)
    = Ideal.ofBits .f32 0x40200000#32 + rowMin x (ix2 r 0) * slope x (ix2 r 0) := rfl
theorem off2_at (x : VB Ideal) (r : Fin 128) : off2 x (ix2 r 0)
    = Ideal.ofBits .f32 0x40F00000#32 + rowMin x (ix2 r 0) * slope x (ix2 r 0) := rfl

theorem along_at (v : V1 Ideal) (r : Fin 128) (c : Fin 256) : along v (ix2 r c) = v (ix2 r 0) := by
  unfold along
  pointwise
theorem alongB_at (v : V1 Ideal) (r : Fin 128) (j : Fin 4096) : alongB v (ix2 r j) = v (ix2 r 0) := by
  unfold alongB
  pointwise

theorem plane0_at (g u : V1 Ideal) (s : VC Ideal) (r : Fin 128) (c : Fin 256) :
    plane0 g u s (ix2 r c) = Ideal.exp (along u (ix2 r c) - s (ix2 r c) * along g (ix2 r c)) := rfl
theorem plane2_at (g u : V1 Ideal) (s : VC Ideal) (r : Fin 128) (c : Fin 256) :
    plane2 g u s (ix2 r c) = Ideal.exp (s (ix2 r c) * along g (ix2 r c) - along u (ix2 r c)) := rfl
theorem Q0_at (x : VB Ideal) (r : Fin 128) (j : Fin 4096) :
    Q0 x (ix2 r j) = Ideal.exp (alongB (off0 x) (ix2 r j) - x (ix2 r j) * alongB (slope x) (ix2 r j)) := by
  unfold Q0
  generalize off0 x = u
  generalize slope x = g
  rfl
theorem Q2_at (x : VB Ideal) (r : Fin 128) (j : Fin 4096) :
    Q2 x (ix2 r j) = Ideal.exp (x (ix2 r j) * alongB (slope x) (ix2 r j) - alongB (off2 x) (ix2 r j)) := rfl

theorem recip1_at (p0 p2 : VC Ideal) (r : Fin 128) (c : Fin 256) : recip1 p0 p2 (ix2 r c)
    = Ideal.div (Ideal.ofBits .f32 0x3F800000#32) (Ideal.ofBits .f32 0x3F800000#32 + p0 (ix2 r c) + p2 (ix2 r c)) := rfl
theorem recip_at (a0 a1 a2 : V1 Ideal) (p0 p2 : VC Ideal) (r : Fin 128) (c : Fin 256) : recip a0 a1 a2 p0 p2 (ix2 r c)
    = Ideal.div (Ideal.ofBits .f32 0x3F800000#32)
        (along a1 (ix2 r c) + p0 (ix2 r c) * along a0 (ix2 r c) + p2 (ix2 r c) * along a2 (ix2 r c)) := rfl

theorem start0_at (x : VB Ideal) (r : Fin 128) : start0 x (ix2 r 0)
    = Ideal.div (Ideal.ofBits .f32 0x44000000#32 * Ideal.ofBits .f32 0x3F800000#32)
        (Ideal.ofBits .f32 0x45800000#32 - Ideal.ofBits .f32 0x3F800000#32 * first1 x (ix2 r 0)
          - Ideal.ofBits .f32 0x3F800000#32 * first2 x (ix2 r 0)) := rfl
theorem start1_at (x : VB Ideal) (r : Fin 128) : start1 x (ix2 r 0) = Ideal.div (Ideal.ofBits .f32 0x45400000#32) (first1 x (ix2 r 0)) := rfl
theorem start2_at (x : VB Ideal) (r : Fin 128) : start2 x (ix2 r 0) = Ideal.div (Ideal.ofBits .f32 0x44000000#32) (first2 x (ix2 r 0)) := rfl

section Next

variable (q0 q2 : VB Ideal) (a0 a1 a2 : V1 Ideal) (r : Fin 128)

theorem next0_at : next0 q0 q2 a0 a1 a2 (ix2 r 0) = Ideal.div (Ideal.ofBits .f32 0x44000000#32 * a0 (ix2 r 0))
    (Ideal.ofBits .f32 0x45800000#32 - a1 (ix2 r 0) * sum1 q0 q2 a0 a1 a2 (ix2 r 0) - a2 (ix2 r 0) * sum2 q0 q2 a0 a1 a2 (ix2 r 0)) := rfl
theorem next1_at : next1 q0 q2 a0 a1 a2 (ix2 r 0)
    = Ideal.div (Ideal.ofBits .f32 0x45400000#32) (sum1 q0 q2 a0 a1 a2 (ix2 r 0)) := rfl
theorem next2_at : next2 q0 q2 a0 a1 a2 (ix2 r 0)
    = Ideal.div (Ideal.ofBits .f32 0x44000000#32) (sum2 q0 q2 a0 a1 a2 (ix2 r 0)) := rfl

end Next

theorem beyond_at (a b : V1 Ideal) (r : Fin 128) : beyond a b (ix2 r 0)
    = (FloatOps.absf (b (ix2 r 0) - a (ix2 r 0) : Ideal .f32) : Ideal .f32) - Ideal.ofBits .f32 0x360637BD#32 * a (ix2 r 0) := rfl

theorem excess_at (a0 a1 a2 b0 b1 b2 : V1 Ideal) : excess a0 a1 a2 b0 b1 b2
    = (Finset.univ : Finset (Fin 128 × Fin 1)).fold max (Ideal.ofBits .f32 0xFF800000#32) fun x =>
        max (max (beyond a0 b0 (ix2 x.1 0)) (beyond a1 b1 (ix2 x.1 0))) (beyond a2 b2 (ix2 x.1 0)) := by
  unfold excess
  generalize beyond a0 b0 = u
  generalize beyond a1 b1 = v
  generalize beyond a2 b2 = w
  pointwise

theorem moves_iff (d : Ideal .f32) : moves d ↔ (0 : EReal) < d := by
  unfold moves
  pointwise
  by_cases h : (0 : EReal) < d <;> simp [h]

theorem outB_at (a0 a1 a2 b0 b2 : V1 Ideal) (q0 q2 : VB Ideal) (r : Fin 128) (j : Fin 4096) : outB a0 a1 a2 b0 b2 q0 q2 (ix2 r j)
    = (q2 (ix2 r j) * alongB b2 (ix2 r j) - q0 (ix2 r j) * alongB b0 (ix2 r j))
      * Ideal.div (Ideal.ofBits .f32 0x3F800000#32)
        (alongB a1 (ix2 r j) + q0 (ix2 r j) * alongB a0 (ix2 r j) + q2 (ix2 r j) * alongB a2 (ix2 r j)) := rfl

end Cert.KernelIdeal.Stk

end
-- ==== Proof.Math.Row.lean ====
/- One row of the problem over the real numbers: the three scales and one rescaling of them, from the two planes of the
   exponential kernel divided by its middle column; and the same step with potentials and logarithms. -/
module

public import Idealize.ShloMosaic.PureOps.Ideal.Laws

@[expose] public section

noncomputable section

namespace SoftTopK

open scoped BigOperators

/-- A number for every score of a row; a number for every anchor. -/
abbrev Plane := Fin 4096 → ℝ
@[inherit_doc Plane] abbrev Scales := Fin 3 → ℝ

/-- The row sum of the rescaled kernel at score `j`, divided by the kernel's middle column there. -/
def den (q0 q2 : Plane) (a : Scales) (j : Fin 4096) : ℝ := a 1 + q0 j * a 0 + q2 j * a 2

/-- The middle and the last column sum. -/
def col1 (q0 q2 : Plane) (a : Scales) : ℝ := ∑ j, 1 / den q0 q2 a j
def col2 (q0 q2 : Plane) (a : Scales) : ℝ := ∑ j, q2 j * (1 / den q0 q2 a j)

/-- The scales after one step, the first column's sum being what the other two leave of 4096. -/
def next0 (q0 q2 : Plane) (a : Scales) : ℝ := 512 * a 0 / (4096 - a 1 * col1 q0 q2 a - a 2 * col2 q0 q2 a)
def next1 (q0 q2 : Plane) (a : Scales) : ℝ := 3072 / col1 q0 q2 a
def next2 (q0 q2 : Plane) (a : Scales) : ℝ := 512 / col2 q0 q2 a
def next (q0 q2 : Plane) (a : Scales) : Scales := ![next0 q0 q2 a, next1 q0 q2 a, next2 q0 q2 a]

/-- The output at score `j`: read with the scales `b`, normalized with the scales `a`. -/
def read (q0 q2 : Plane) (a b : Scales) (j : Fin 4096) : ℝ := (q2 j * b 2 - q0 j * b 0) * (1 / den q0 q2 a j)

section

variable {q0 q2 : Plane} (h0 : ∀ j, 0 < q0 j) (h2 : ∀ j, 0 < q2 j) {a : Scales} (ha : ∀ k, 0 < a k)

include h0 h2 ha

theorem den_pos (j : Fin 4096) : 0 < den q0 q2 a j := by
  unfold den
  have := mul_pos (h0 j) (ha 0); have := mul_pos (h2 j) (ha 2); have := ha 1
  positivity

theorem col1_pos : 0 < col1 q0 q2 a :=
  Finset.sum_pos (fun j _ => one_div_pos.mpr (den_pos h0 h2 ha j)) Finset.univ_nonempty

theorem col2_pos : 0 < col2 q0 q2 a :=
  Finset.sum_pos (fun j _ => mul_pos (h2 j) (one_div_pos.mpr (den_pos h0 h2 ha j))) Finset.univ_nonempty

theorem col0_pos : 0 < ∑ j, q0 j * (1 / den q0 q2 a j) :=
  Finset.sum_pos (fun j _ => mul_pos (h0 j) (one_div_pos.mpr (den_pos h0 h2 ha j))) Finset.univ_nonempty

/-- What the other two columns leave of 4096 is the first column's. -/
theorem left_eq : 4096 - a 1 * col1 q0 q2 a - a 2 * col2 q0 q2 a = a 0 * ∑ j, q0 j * (1 / den q0 q2 a j) := by
  have e : a 1 * col1 q0 q2 a + a 2 * col2 q0 q2 a + a 0 * ∑ j, q0 j * (1 / den q0 q2 a j) = ∑ _j : Fin 4096, (1 : ℝ) := by
    unfold col1 col2
    rw [Finset.mul_sum, Finset.mul_sum, Finset.mul_sum, ← Finset.sum_add_distrib, ← Finset.sum_add_distrib]
    refine Finset.sum_congr rfl fun j _ => ?_
    have hd := (den_pos h0 h2 ha j).ne'
    field_simp
    unfold den; ring
  have e' : ∑ _j : Fin 4096, (1 : ℝ) = 4096 := by simp
  rw [e'] at e
  linarith

theorem left_pos : 0 < 4096 - a 1 * col1 q0 q2 a - a 2 * col2 q0 q2 a := by
  rw [left_eq h0 h2 ha]; exact mul_pos (ha 0) (col0_pos h0 h2 ha)

/-- So the first scale steps as the other two do. -/
theorem next0_eq : next0 q0 q2 a = 512 / ∑ j, q0 j * (1 / den q0 q2 a j) := by
  have h := (col0_pos h0 h2 ha).ne'
  have ha0 := (ha 0).ne'
  unfold next0; rw [left_eq h0 h2 ha]; field_simp

theorem next_pos (k : Fin 3) : 0 < next q0 q2 a k := by
  fin_cases k
  · exact div_pos (mul_pos (by norm_num) (ha 0)) (left_pos h0 h2 ha)
  · exact div_pos (by norm_num) (col1_pos h0 h2 ha)
  · exact div_pos (by norm_num) (col2_pos h0 h2 ha)

end

/-! ## The same with potentials -/

/-- The potential of score `j`, from the anchors' potentials `v`. -/
def pot (K : Fin 4096 → Fin 3 → ℝ) (v : Fin 3 → ℝ) (j : Fin 4096) : ℝ := -Real.log 4096 - Real.log (∑ k, Real.exp (K j k + v k))
/-- The anchors' shares. -/
def share : Fin 3 → ℝ := ![1 / 8, 3 / 4, 1 / 8]
/-- The anchors' potentials after one step. -/
def newPot (K : Fin 4096 → Fin 3 → ℝ) (v : Fin 3 → ℝ) (k : Fin 3) : ℝ := Real.log (share k) - Real.log (∑ j, Real.exp (K j k + pot K v j))

theorem share_pos (k : Fin 3) : 0 < share k := by fin_cases k <;> simp [share]

section

variable {K : Fin 4096 → Fin 3 → ℝ} {q0 q2 : Plane} (e0 : ∀ j, q0 j = Real.exp (K j 0 - K j 1)) (e2 : ∀ j, q2 j = Real.exp (K j 2 - K j 1))

include e0 e2

/-- The rescaled kernel's row sum. -/
theorem rowSum_eq (v : Fin 3 → ℝ) (j : Fin 4096) :
    ∑ k, Real.exp (K j k + v k) = Real.exp (K j 1) * den q0 q2 (fun k => Real.exp (v k)) j := by
  rw [Fin.sum_univ_three]
  unfold den
  rw [e0, e2]
  simp only [mul_add, ← Real.exp_add, ← mul_assoc]
  rw [show K j 1 + (K j 0 - K j 1 + v 0) = K j 0 + v 0 by ring, show K j 1 + (K j 2 - K j 1 + v 2) = K j 2 + v 2 by ring]
  ring

theorem exp_pot (v : Fin 3 → ℝ) (j : Fin 4096) :
    Real.exp (K j 1 + pot K v j) = (1 / den q0 q2 (fun k => Real.exp (v k)) j) / 4096 := by
  have hd : 0 < den q0 q2 (fun k => Real.exp (v k)) j :=
    den_pos (fun j => by rw [e0]; exact Real.exp_pos _) (fun j => by rw [e2]; exact Real.exp_pos _) (fun k => Real.exp_pos _) j
  unfold pot
  rw [rowSum_eq e0 e2, Real.log_mul (Real.exp_pos _).ne' hd.ne', Real.log_exp,
    show K j 1 + (-Real.log 4096 - (K j 1 + Real.log (den q0 q2 (fun k => Real.exp (v k)) j)))
      = -(Real.log 4096 + Real.log (den q0 q2 (fun k => Real.exp (v k)) j)) by ring, Real.exp_neg, Real.exp_add,
    Real.exp_log (by norm_num), Real.exp_log hd]
  field_simp

theorem exp_pot0 (v : Fin 3 → ℝ) (j : Fin 4096) :
    Real.exp (K j 0 + pot K v j) = q0 j * (1 / den q0 q2 (fun k => Real.exp (v k)) j) / 4096 := by
  rw [show K j 0 + pot K v j = (K j 0 - K j 1) + (K j 1 + pot K v j) by ring, Real.exp_add, exp_pot e0 e2, ← e0]; ring

theorem exp_pot2 (v : Fin 3 → ℝ) (j : Fin 4096) :
    Real.exp (K j 2 + pot K v j) = q2 j * (1 / den q0 q2 (fun k => Real.exp (v k)) j) / 4096 := by
  rw [show K j 2 + pot K v j = (K j 2 - K j 1) + (K j 1 + pot K v j) by ring, Real.exp_add, exp_pot e0 e2, ← e2]; ring

/-- A step of the potentials is a step of the scales. -/
theorem exp_newPot (v : Fin 3 → ℝ) : (fun k => Real.exp (newPot K v k)) = next q0 q2 (fun k => Real.exp (v k)) := by
  have h0 : ∀ j, 0 < q0 j := fun j => by rw [e0]; exact Real.exp_pos _
  have h2 : ∀ j, 0 < q2 j := fun j => by rw [e2]; exact Real.exp_pos _
  have ha : ∀ k : Fin 3, 0 < (fun k => Real.exp (v k)) k := fun k => Real.exp_pos _
  have key : ∀ (k : Fin 3) (c : ℝ), 0 < c → (∑ j, Real.exp (K j k + pot K v j)) = c / 4096 →
      Real.exp (newPot K v k) = share k * 4096 / c := fun k c hc e => by
    unfold newPot
    rw [e, Real.exp_sub, Real.exp_log (share_pos k), Real.exp_log (by positivity)]
    field_simp
  funext k
  fin_cases k
  · refine (key 0 _ (col0_pos h0 h2 ha) (by rw [Finset.sum_div]; exact Finset.sum_congr rfl fun j _ => exp_pot0 e0 e2 v j)).trans ?_
    show _ = next0 q0 q2 (fun k => Real.exp (v k))
    rw [next0_eq h0 h2 ha, show share 0 = 1 / 8 from rfl]; norm_num
  · refine (key 1 _ (col1_pos h0 h2 ha) (by unfold col1; rw [Finset.sum_div]; exact Finset.sum_congr rfl fun j _ => exp_pot e0 e2 v j)).trans ?_
    show _ = next1 q0 q2 (fun k => Real.exp (v k))
    unfold next1; rw [show share 1 = 3 / 4 from rfl]; norm_num
  · refine (key 2 _ (col2_pos h0 h2 ha) (by unfold col2; rw [Finset.sum_div]; exact Finset.sum_congr rfl fun j _ => exp_pot2 e0 e2 v j)).trans ?_
    show _ = next2 q0 q2 (fun k => Real.exp (v k))
    unfold next2; rw [show share 2 = 1 / 8 from rfl]; norm_num

/-- The plan's two outer columns, in shares of a score, are the output read with the new scales. -/
theorem plan_read (v w : Fin 3 → ℝ) (j : Fin 4096) :
    (Real.exp (K j 2 + pot K v j + w 2) - Real.exp (K j 0 + pot K v j + w 0)) * 4096
      = read q0 q2 (fun k => Real.exp (v k)) (fun k => Real.exp (w k)) j := by
  rw [Real.exp_add, Real.exp_add _ (w 0), exp_pot0 e0 e2, exp_pot2 e0 e2]
  unfold read; ring

end

end SoftTopK

end
-- ==== Proof.Math.Group.lean ====
/- A row's planes from its scores moved to the unit interval, and the rescaling of a group of 128 rows until no scale moves beyond the tolerance. -/
module

public import proofs.«01_k».proof.Proof.Math.Row

@[expose] public section

noncomputable section

namespace SoftTopK

/-! ## A row's planes -/

/-- The tolerance, as the binary fraction the program holds. -/
def tol : ℝ := 8796093 / 2 ^ 42

/-- The two planes of a row whose scores were moved to the unit interval. -/
def plane0 (x : Plane) : Plane := fun j => Real.exp (5 / 2 - 10 * x j)
def plane2 (x : Plane) : Plane := fun j => Real.exp (10 * x j - 15 / 2)

/-- The anchors, and the exponent of the kernel. -/
def anchor : Fin 3 → ℝ := ![0, 1 / 2, 1]
def expo (x : Plane) (j : Fin 4096) (k : Fin 3) : ℝ := -((x j - anchor k) * (x j - anchor k)) / (1 / 10)

/-- The planes are the kernel's outer columns divided by its middle one. -/
theorem plane0_eq (x : Plane) (j : Fin 4096) : plane0 x j = Real.exp (expo x j 0 - expo x j 1) := by
  unfold plane0 expo
  rw [show anchor 0 = 0 from rfl, show anchor 1 = 1 / 2 from rfl]
  congr 1; ring
theorem plane2_eq (x : Plane) (j : Fin 4096) : plane2 x j = Real.exp (expo x j 2 - expo x j 1) := by
  unfold plane2 expo
  rw [show anchor 2 = 1 from rfl, show anchor 1 = 1 / 2 from rfl]
  congr 1; ring

theorem plane0_pos (s : Plane) (j : Fin 4096) : 0 < plane0 s j := Real.exp_pos _
theorem plane2_pos (s : Plane) (j : Fin 4096) : 0 < plane2 s j := Real.exp_pos _

/-! ## A group of rows -/

/-- The scores of 128 rows; three scales for each of them. -/
abbrev Rows := Fin 128 → Plane
@[inherit_doc Rows] abbrev Group := Fin 128 → Scales

/-- Some scale is further from where it was than the tolerance allows. -/
def Moved (a b : Group) : Prop := ∃ r k, 0 < |b r k - a r k| - tol * a r k

/-- One step of every row. -/
def step (s : Rows) (a : Group) : Group := fun r => next (plane0 (s r)) (plane2 (s r)) (a r)

/-- The scales, and whether the last step moved one of them. -/
structure Stage where
  a : Group
  moving : Prop

open Classical in
/-- One step, unless the last one moved nothing. -/
def hop (s : Rows) (t : Stage) : Stage := if t.moving then ⟨step s t.a, Moved t.a (step s t.a)⟩ else t

/-- After the first step, which is not tested. -/
def start (s : Rows) : Stage := ⟨step s fun _ _ => 1, True⟩
/-- After `k` further steps. -/
def stage (s : Rows) (k : ℕ) : Stage := (hop s)^[k] (start s)

open Classical in
/-- The scales after one more step, if the last one moved any. -/
def after (s : Rows) (t : Stage) : Group := if t.moving then step s t.a else t.a

theorem stage_succ (s : Rows) (k : ℕ) : stage s (k + 1) = hop s (stage s k) := Function.iterate_succ_apply' _ _ _

theorem hop_a (s : Rows) (t : Stage) : (hop s t).a = after s t := by
  unfold hop after; split <;> rfl

theorem step_pos (s : Rows) {a : Group} (ha : ∀ r k, 0 < a r k) (r : Fin 128) (k : Fin 3) : 0 < step s a r k :=
  next_pos (plane0_pos _) (plane2_pos _) (ha r) k

theorem stage_pos (s : Rows) (k : ℕ) : ∀ r i, 0 < (stage s k).a r i := by
  induction k with
  | zero => exact step_pos s fun _ _ => one_pos
  | succ k ih =>
    rw [stage_succ, hop_a]
    unfold after; split
    · exact step_pos s ih
    · exact ih

/-- The output of a group of rows: 199 steps at most, and one more for the scales it is read with. -/
def output (s : Rows) (r : Fin 128) (j : Fin 4096) : ℝ :=
  read (plane0 (s r)) (plane2 (s r)) ((stage s 198).a r) (after s (stage s 198) r) j

end SoftTopK

end
-- ==== Proof.Math.Coe.lean ====
/- Real numbers among the extended reals: quotients, logarithms, extrema and sums of finitely many of them, and the constants
   of the two programs. -/
module

public import proofs.«01_k».proof.Proof.Math.Group
public import Idealize.ShloMosaic.Lib.IdealHost

@[expose] public section

noncomputable section

namespace SoftTopK

open Idealize.ShloMosaic
open scoped BigOperators

theorem div_real {y : ℝ} (h : y ≠ 0) (x : ℝ) : Ideal.div (x : EReal) (y : EReal) = ((x / y : ℝ) : EReal) := by
  rw [Ideal.div_coe h, ← EReal.coe_mul]; congr 1; ring

theorem log_real {x : ℝ} (h : 0 < x) : Ideal.log (x : EReal) = ((Real.log x : ℝ) : EReal) := by
  rw [Ideal.log_coe, if_neg h.not_ge]

theorem abs_real (x : ℝ) : (FloatOps.absf ((x : EReal) : Ideal .f32) : Ideal .f32) = ((|x| : ℝ) : EReal) := by
  show max (x : EReal) (-(x : EReal)) = _
  rw [← EReal.coe_neg]; exact (EReal.coe_strictMono.monotone.map_max (a := x) (b := -x)).symm

theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The fold of `max` from `⊥` is the supremum, and of `min` from `⊤` the infimum. -/
theorem fold_max {ι : Type} (s : Finset ι) (f : ι → EReal) : s.fold max ⊥ f = s.sup f := rfl
theorem fold_min {ι : Type} (s : Finset ι) (f : ι → EReal) : s.fold min ⊤ f = s.inf f := rfl

theorem sup_real {ι : Type} (s : Finset ι) (h : s.Nonempty) (f : ι → ℝ) : (s.sup fun i => (f i : EReal)) = ((s.sup' h f : ℝ) : EReal) := by
  refine le_antisymm (Finset.sup_le fun i hi => EReal.coe_le_coe_iff.mpr (Finset.le_sup' f hi)) ?_
  obtain ⟨i, hi, e⟩ := Finset.exists_mem_eq_sup' h f
  rw [e]; exact Finset.le_sup (f := fun i => (f i : EReal)) hi

theorem inf_real {ι : Type} (s : Finset ι) (h : s.Nonempty) (f : ι → ℝ) : (s.inf fun i => (f i : EReal)) = ((s.inf' h f : ℝ) : EReal) := by
  refine le_antisymm ?_ (Finset.le_inf fun i hi => EReal.coe_le_coe_iff.mpr (Finset.inf'_le f hi))
  obtain ⟨i, hi, e⟩ := Finset.exists_mem_eq_inf' h f
  rw [e]; exact Finset.inf_le (f := fun i => (f i : EReal)) hi

/-- The logarithm of a sum of exponentials, shifted by any real number, is not shifted. -/
theorem shifted_log {ι : Type} (s : Finset ι) (h : s.Nonempty) (f : ι → ℝ) (c : ℝ) :
    Ideal.log (∑ i ∈ s, Ideal.exp ((f i : EReal) - (c : EReal))) + (c : EReal) = ((Real.log (∑ i ∈ s, Real.exp (f i)) : ℝ) : EReal) := by
  have hp : 0 < ∑ i ∈ s, Real.exp (f i) := Finset.sum_pos (fun i _ => Real.exp_pos _) h
  have e : ∀ i, Ideal.exp ((f i : EReal) - (c : EReal)) = ((Real.exp (f i) * Real.exp (-c) : ℝ) : EReal) := fun i => by
    rw [← EReal.coe_sub, Ideal.exp_coe, ← Real.exp_add, sub_eq_add_neg]
  simp only [e]
  rw [sum_real, ← Finset.sum_mul, log_real (mul_pos hp (Real.exp_pos _)), ← EReal.coe_add,
    Real.log_mul hp.ne' (Real.exp_pos _).ne', Real.log_exp]
  congr 1; ring

/-! ## Constants -/

theorem w_top : Ideal.ofBits .f32 0x7F800000#32 = ⊤ := by simp [Ideal.ofBits, Ideal.ieee]
theorem w_bot : Ideal.ofBits .f32 0xFF800000#32 = ⊥ := by simp [Ideal.ofBits, Ideal.ieee]
theorem w_one : Ideal.ofBits .f32 0x3F800000#32 = ((1 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_ten : Ideal.ofBits .f32 0x41200000#32 = ((10 : ℝ) : EReal) := by
  simp [Ideal.ofBits, Ideal.ieee, -EReal.coe_mul]; norm_num
theorem w_all : Ideal.ofBits .f32 0x45800000#32 = ((4096 : ℝ) : EReal) := by
  simp [Ideal.ofBits, Ideal.ieee, -EReal.coe_mul]; norm_num
theorem w_mid : Ideal.ofBits .f32 0x45400000#32 = ((3072 : ℝ) : EReal) := by
  simp [Ideal.ofBits, Ideal.ieee, -EReal.coe_mul]; norm_num
theorem w_outer : Ideal.ofBits .f32 0x44000000#32 = ((512 : ℝ) : EReal) := by
  simp [Ideal.ofBits, Ideal.ieee, -EReal.coe_mul]; norm_num
theorem w_off0 : Ideal.ofBits .f32 0x40200000#32 = ((5 / 2 : ℝ) : EReal) := by
  simp [Ideal.ofBits, Ideal.ieee, -EReal.coe_mul]; norm_num
theorem w_off2 : Ideal.ofBits .f32 0x40F00000#32 = ((15 / 2 : ℝ) : EReal) := by
  simp [Ideal.ofBits, Ideal.ieee, -EReal.coe_mul]; norm_num
theorem w_eighth : Ideal.ofBits .f32 0x3E000000#32 = ((1 / 8 : ℝ) : EReal) := by
  simp [Ideal.ofBits, Ideal.ieee, -EReal.coe_mul]; norm_num
theorem w_most : Ideal.ofBits .f32 0x3F400000#32 = ((3 / 4 : ℝ) : EReal) := by
  simp [Ideal.ofBits, Ideal.ieee, -EReal.coe_mul]; norm_num
theorem w_tol : Ideal.ofBits .f32 0x360637BD#32 = ((tol : ℝ) : EReal) := by
  simp [Ideal.ofBits, Ideal.ieee, -EReal.coe_mul]; unfold tol; norm_num

end SoftTopK

end
-- ==== Proof.Math.Unit.lean ====
/-
  A row's scores moved to the unit interval, for any extended real scores. A row with an infinite score has an infinite range,
  and dividing by that gives zero: such a row is one whose scores all lie at the interval's lower end, for the kernel as for the
  reference.
-/
module

public import proofs.«01_k».proof.Proof.Math.Coe

@[expose] public section

noncomputable section

namespace SoftTopK

open Idealize.ShloMosaic

/-- The small number that keeps the range from zero, as the binary fraction the programs hold. -/
def small : ℝ := 9223372 / 2 ^ 63

/-- A row's smallest and largest score. -/
def low (s : Plane) : ℝ := Finset.univ.inf' ⟨0, Finset.mem_univ _⟩ s
/-- The largest. -/
def high (s : Plane) : ℝ := Finset.univ.sup' ⟨0, Finset.mem_univ _⟩ s
/-- A row's range, never zero. -/
def range (s : Plane) : ℝ := high s - low s + small

theorem low_le_high (s : Plane) : low s ≤ high s :=
  (Finset.inf'_le s (Finset.mem_univ 0)).trans (Finset.le_sup' s (Finset.mem_univ 0))

theorem range_pos (s : Plane) : 0 < range s := by
  have := low_le_high s
  have h : (0 : ℝ) < small := by unfold small; norm_num
  unfold range; linarith

theorem w_small : Ideal.ofBits .f32 0x2B8CBCCC#32 = ((small : ℝ) : EReal) := by
  simp [Ideal.ofBits, Ideal.ieee, -EReal.coe_mul]; unfold small; norm_num

/-- A row of scores as the programs are given it. -/
abbrev Raw := Fin 4096 → EReal

/-- The range as the programs compute it. -/
def rawRange (e : Raw) : EReal := Finset.univ.sup e - Finset.univ.inf e + (small : EReal)

open Classical in
/-- The scores moved to the unit interval. -/
def unit (e : Raw) : Plane := fun j =>
  if ∃ s : Plane, ∀ j, e j = ((s j : ℝ) : EReal) then
    ((e j).toReal - low fun j => (e j).toReal) / range fun j => (e j).toReal
  else 0

/-! ## Rows of finite scores -/

section Finite

variable {e : Raw} {s : Plane} (h : ∀ j, e j = ((s j : ℝ) : EReal))
include h

theorem unit_finite (j : Fin 4096) : unit e j = (s j - low s) / range s := by
  unfold unit
  rw [if_pos ⟨s, h⟩]
  simp only [h, EReal.toReal_coe]

theorem inf_finite : Finset.univ.inf e = ((low s : ℝ) : EReal) := by
  rw [show e = fun j => ((s j : ℝ) : EReal) from funext h]
  exact inf_real _ ⟨0, Finset.mem_univ _⟩ _

theorem rawRange_finite : rawRange e = ((range s : ℝ) : EReal) := by
  have hs : Finset.univ.sup e = ((high s : ℝ) : EReal) := by
    rw [show e = fun j => ((s j : ℝ) : EReal) from funext h]
    exact sup_real _ ⟨0, Finset.mem_univ _⟩ _
  unfold rawRange
  rw [hs, inf_finite h, ← EReal.coe_sub, ← EReal.coe_add]
  rfl

end Finite

/-! ## Rows with an infinite score -/

section Infinite

variable {e : Raw} (h : ¬∃ s : Plane, ∀ j, e j = ((s j : ℝ) : EReal))
include h

theorem unit_infinite (j : Fin 4096) : unit e j = 0 := if_neg h

theorem exists_infinite : ∃ j, e j = ⊤ ∨ e j = ⊥ := by
  by_contra hn
  push Not at hn
  exact h ⟨fun j => (e j).toReal, fun j => (EReal.coe_toReal (hn j).1 (hn j).2).symm⟩

theorem rawRange_infinite : rawRange e = ⊤ ∨ rawRange e = ⊥ := by
  unfold rawRange
  obtain ⟨j, hj | hj⟩ := exists_infinite h
  · have ht : Finset.univ.sup e = ⊤ := top_le_iff.mp (hj ▸ Finset.le_sup (Finset.mem_univ j))
    rw [ht]
    induction Finset.univ.inf e using EReal.rec with
    | bot => left; simp
    | coe x => left; simp
    | top => right; simp
  · have hb : Finset.univ.inf e = ⊥ := le_bot_iff.mp (hj ▸ Finset.inf_le (Finset.mem_univ j))
    rw [hb]
    induction Finset.univ.sup e using EReal.rec with
    | bot => right; simp
    | coe x => left; simp
    | top => left; simp

theorem div_infinite (z : EReal) : Ideal.div z (rawRange e) = 0 := by
  unfold Ideal.div
  rcases rawRange_infinite h with hr | hr <;> rw [hr] <;> simp

end Infinite

/-! ## Any row -/

/-- The score moved to the unit interval as the reference computes it, -/
theorem unit_div (e : Raw) (j : Fin 4096) : Ideal.div (e j - Finset.univ.inf e) (rawRange e) = ((unit e j : ℝ) : EReal) := by
  by_cases h : ∃ s : Plane, ∀ j, e j = ((s j : ℝ) : EReal)
  · obtain ⟨s, h⟩ := h
    rw [h, inf_finite h, rawRange_finite h, unit_finite h, ← EReal.coe_sub]
    exact div_real (range_pos s).ne' _
  · rw [div_infinite h, unit_infinite h, EReal.coe_zero]

/-- and the exponents of the two planes as the kernel computes them. -/
theorem exponent0 (e : Raw) (j : Fin 4096) :
    ((5 / 2 : ℝ) : EReal) + Finset.univ.inf e * Ideal.div ((10 : ℝ) : EReal) (rawRange e) - e j * Ideal.div ((10 : ℝ) : EReal) (rawRange e)
      = ((5 / 2 - 10 * unit e j : ℝ) : EReal) := by
  by_cases h : ∃ s : Plane, ∀ j, e j = ((s j : ℝ) : EReal)
  · obtain ⟨s, h⟩ := h
    rw [h, inf_finite h, rawRange_finite h, unit_finite h, div_real (range_pos s).ne', ← EReal.coe_mul, ← EReal.coe_mul, ← EReal.coe_add,
      ← EReal.coe_sub]
    congr 1; ring
  · rw [div_infinite h, unit_infinite h, mul_zero, mul_zero, ← EReal.coe_zero, ← EReal.coe_add, ← EReal.coe_sub]
    congr 1; ring
theorem exponent2 (e : Raw) (j : Fin 4096) :
    e j * Ideal.div ((10 : ℝ) : EReal) (rawRange e) - (((15 / 2 : ℝ) : EReal) + Finset.univ.inf e * Ideal.div ((10 : ℝ) : EReal) (rawRange e))
      = ((10 * unit e j - 15 / 2 : ℝ) : EReal) := by
  by_cases h : ∃ s : Plane, ∀ j, e j = ((s j : ℝ) : EReal)
  · obtain ⟨s, h⟩ := h
    rw [h, inf_finite h, rawRange_finite h, unit_finite h, div_real (range_pos s).ne', ← EReal.coe_mul, ← EReal.coe_mul, ← EReal.coe_add,
      ← EReal.coe_sub]
    congr 1; ring
  · rw [div_infinite h, unit_infinite h, mul_zero, mul_zero, ← EReal.coe_zero, ← EReal.coe_add, ← EReal.coe_sub]
    congr 1; ring

end SoftTopK

end
-- ==== Proof.KI.Sums.lean ====
/- The sums, minima and maxima of a row of a block, taken half chunk by half chunk, are those of the row. -/
module

public import proofs.«01_k».proof.Proof.KI.Read
public import proofs.«01_k».proof.Proof.Math.Unit

@[expose] public section

set_option maxRecDepth 16384

noncomputable section

namespace Cert.KernelIdeal.Stk

open Cert.KernelIdeal Cert.KernelIdeal.Gen
open Idealize.ShloMosaic
open SoftTopK (Plane sum_real fold_max fold_min w_top w_bot)
open scoped BigOperators

/-- A sum over a row, chunk by chunk and half by half. -/
theorem sum_row (P : Plane) :
    ∑ c : Fin 128, ∑ n ∈ Finset.range 16, (P (place (Fin.ofNat 16 n) (inLeft c)) + P (place (Fin.ofNat 16 n) (inRight c))) = ∑ j, P j := by
  have h : ∑ j, P j = ∑ k : Fin 16, ∑ c : Fin 256, P (place k c) := by
    rw [← Fintype.sum_prod_type' (fun (k : Fin 16) (c : Fin 256) => P (place k c))]
    refine (Equiv.sum_comp (finProdFinEquiv : Fin 16 × Fin 256 ≃ Fin 4096) P).symm.trans (Finset.sum_congr rfl fun x _ => ?_)
    congr 1
    exact Fin.ext (Nat.add_comm _ _)
  rw [h, Finset.sum_comm, Finset.sum_range]
  refine Finset.sum_congr rfl fun k _ => ?_
  have e : Fin.ofNat 16 k.val = k := Fin.ext (Nat.mod_eq_of_lt k.isLt)
  rw [e, Finset.sum_add_distrib]
  exact (Fin.sum_univ_add (a := 128) (b := 128) fun c => P (place k c)).symm

/-- The sum the kernel takes of chunks holding real numbers. -/
theorem total_real {f : Fin 16 → VC Ideal} {P : Plane} {r : Fin 128} (h : ∀ k c, f k (ix2 r c) = ((P (place k c) : ℝ) : EReal)) :
    total f (ix2 r 0) = ((∑ j, P j : ℝ) : EReal) := by
  have ha (c : Fin 128) : ∀ n, acc f n (ix2 r c)
      = ((∑ n ∈ Finset.range n, (P (place (Fin.ofNat 16 n) (inLeft c)) + P (place (Fin.ofNat 16 n) (inRight c))) : ℝ) : EReal) := by
    intro n
    induction n with
    | zero => rw [acc_zero, Finset.sum_range_zero, EReal.coe_zero]
    | succ n ih => rw [acc_succ, lo_at, hi_at, h, h, ih, Finset.sum_range_succ, ← EReal.coe_add, ← EReal.coe_add]
  rw [total_at]
  simp only [ha]
  rw [sum_real, sum_row]

/-- Every column is in a half of a chunk. -/
theorem exists_col (j : Fin 4096) : ∃ n, n ≤ 15 ∧ ∃ c : Fin 128, j = place (Fin.ofNat 16 n) (inLeft c) ∨ j = place (Fin.ofNat 16 n) (inRight c) := by
  have hn : j.val / 256 < 16 := by omega
  refine ⟨j.val / 256, by omega, ⟨j.val % 128, Nat.mod_lt _ (by norm_num)⟩, ?_⟩
  rcases Nat.lt_or_ge (j.val % 256) 128 with h | h
  · left; apply Fin.ext
    show j.val = 256 * (j.val / 256 % 16) + j.val % 128
    omega
  · right; apply Fin.ext
    show j.val = 256 * (j.val / 256 % 16) + (128 + j.val % 128)
    omega

theorem le_accMin (x : VB Ideal) (r c : Fin 128) (b : EReal) : ∀ n, b ≤ accMin x n (ix2 r c)
    ↔ ∀ m, m ≤ n → b ≤ x (ix2 r (place (Fin.ofNat 16 m) (inLeft c))) ∧ b ≤ x (ix2 r (place (Fin.ofNat 16 m) (inRight c)))
  | 0 => by
    rw [accMin_zero, lo_at, hi_at, chunk_at, chunk_at, le_min_iff]
    exact ⟨fun h m hm => by obtain rfl := Nat.le_zero.mp hm; exact h, fun h => h 0 le_rfl⟩
  | n + 1 => by
    rw [accMin_succ, lo_at, hi_at, chunk_at, chunk_at, le_min_iff, le_min_iff, le_accMin x r c b n]
    constructor
    · rintro ⟨h, h'⟩ m hm
      rcases Nat.le_succ_iff.mp hm with hm | rfl
      · exact h m hm
      · exact h'
    · exact fun h => ⟨fun m hm => h m (Nat.le_succ_of_le hm), h (n + 1) le_rfl⟩

theorem accMax_le (x : VB Ideal) (r c : Fin 128) (b : EReal) : ∀ n, accMax x n (ix2 r c) ≤ b
    ↔ ∀ m, m ≤ n → x (ix2 r (place (Fin.ofNat 16 m) (inLeft c))) ≤ b ∧ x (ix2 r (place (Fin.ofNat 16 m) (inRight c))) ≤ b
  | 0 => by
    rw [accMax_zero, lo_at, hi_at, chunk_at, chunk_at, max_le_iff]
    exact ⟨fun h m hm => by obtain rfl := Nat.le_zero.mp hm; exact h, fun h => h 0 le_rfl⟩
  | n + 1 => by
    rw [accMax_succ, lo_at, hi_at, chunk_at, chunk_at, max_le_iff, max_le_iff, accMax_le x r c b n]
    constructor
    · rintro ⟨h, h'⟩ m hm
      rcases Nat.le_succ_iff.mp hm with hm | rfl
      · exact h m hm
      · exact h'
    · exact fun h => ⟨fun m hm => h m (Nat.le_succ_of_le hm), h (n + 1) le_rfl⟩

theorem rowMin_eq (x : VB Ideal) (r : Fin 128) : rowMin x (ix2 r 0) = Finset.univ.inf fun j => x (ix2 r j) := by
  rw [rowMin_at, w_top, fold_min]
  refine eq_of_forall_le_iff fun b => ?_
  rw [Finset.le_inf_iff, Finset.le_inf_iff]
  constructor
  · intro hb j _
    obtain ⟨n, hn, c, rfl | rfl⟩ := exists_col j
    · exact ((le_accMin x r c b 15).mp (hb c (Finset.mem_univ _)) n hn).1
    · exact ((le_accMin x r c b 15).mp (hb c (Finset.mem_univ _)) n hn).2
  · exact fun hb c _ => (le_accMin x r c b 15).mpr fun m _ => ⟨hb _ (Finset.mem_univ _), hb _ (Finset.mem_univ _)⟩

theorem rowMax_eq (x : VB Ideal) (r : Fin 128) : rowMax x (ix2 r 0) = Finset.univ.sup fun j => x (ix2 r j) := by
  rw [rowMax_at, w_bot, fold_max]
  refine eq_of_forall_ge_iff fun b => ?_
  rw [Finset.sup_le_iff, Finset.sup_le_iff]
  constructor
  · intro hb j _
    obtain ⟨n, hn, c, rfl | rfl⟩ := exists_col j
    · exact ((accMax_le x r c b 15).mp (hb c (Finset.mem_univ _)) n hn).1
    · exact ((accMax_le x r c b 15).mp (hb c (Finset.mem_univ _)) n hn).2
  · exact fun hb c _ => (accMax_le x r c b 15).mpr fun m _ => ⟨hb _ (Finset.mem_univ _), hb _ (Finset.mem_univ _)⟩

end Cert.KernelIdeal.Stk

end
-- ==== Proof.KI.Real.lean ====
/- The kernel's operations on a block and on real scales are the real ones. -/
module

public import proofs.«01_k».proof.Proof.KI.Sums

@[expose] public section

set_option maxRecDepth 16384

noncomputable section

namespace Cert.KernelIdeal.Stk

open Cert.KernelIdeal Cert.KernelIdeal.Gen
open Idealize.ShloMosaic
open SoftTopK (Plane Scales Rows Group den col1 col2 den_pos col1_pos col2_pos left_pos tol div_real abs_real fold_max
  w_bot w_one w_ten w_all w_mid w_outer w_off0 w_off2 w_tol w_small)
open scoped BigOperators

/-! ## The planes -/

section Planes

variable (x : VB Ideal)

/-- The scores of a block's rows moved to the unit interval. -/
abbrev units : Rows := fun r => SoftTopK.unit fun j => x (ix2 r j)

theorem slope_eq (r : Fin 128) : slope x (ix2 r 0) = Ideal.div ((10 : ℝ) : EReal) (SoftTopK.rawRange fun j => x (ix2 r j)) := by
  rw [slope_at, rowMin_eq, rowMax_eq, w_ten, w_small]; rfl

theorem Q0_real (r : Fin 128) (j : Fin 4096) : Q0 x (ix2 r j) = ((SoftTopK.plane0 (units x r) j : ℝ) : EReal) := by
  rw [Q0_at, alongB_at, alongB_at, off0_at, slope_eq, rowMin_eq, w_off0]
  exact (congrArg Ideal.exp (SoftTopK.exponent0 (fun j => x (ix2 r j)) j)).trans (Ideal.exp_coe _)
theorem Q2_real (r : Fin 128) (j : Fin 4096) : Q2 x (ix2 r j) = ((SoftTopK.plane2 (units x r) j : ℝ) : EReal) := by
  rw [Q2_at, alongB_at, alongB_at, off2_at, slope_eq, rowMin_eq, w_off2]
  exact (congrArg Ideal.exp (SoftTopK.exponent2 (fun j => x (ix2 r j)) j)).trans (Ideal.exp_coe _)

theorem plane0_real (k : Fin 16) (r : Fin 128) (c : Fin 256) :
    plane0 (slope x) (off0 x) (chunk x k) (ix2 r c) = ((SoftTopK.plane0 (units x r) (place k c) : ℝ) : EReal) := by
  rw [plane0_at, along_at, along_at, off0_at, slope_eq, rowMin_eq, w_off0, chunk_at]
  exact (congrArg Ideal.exp (SoftTopK.exponent0 (fun j => x (ix2 r j)) (place k c))).trans (Ideal.exp_coe _)
theorem plane2_real (k : Fin 16) (r : Fin 128) (c : Fin 256) :
    plane2 (slope x) (off2 x) (chunk x k) (ix2 r c) = ((SoftTopK.plane2 (units x r) (place k c) : ℝ) : EReal) := by
  rw [plane2_at, along_at, along_at, off2_at, slope_eq, rowMin_eq, w_off2, chunk_at]
  exact (congrArg Ideal.exp (SoftTopK.exponent2 (fun j => x (ix2 r j)) (place k c))).trans (Ideal.exp_coe _)

end Planes

/-! ## The first step -/

/-- The three scales of every row. -/
structure Scaled (a0 a1 a2 : V1 Ideal) (a : Group) : Prop where
  a0 : ∀ r, a0 (ix2 r 0) = ((a r 0 : ℝ) : EReal)
  a1 : ∀ r, a1 (ix2 r 0) = ((a r 1 : ℝ) : EReal)
  a2 : ∀ r, a2 (ix2 r 0) = ((a r 2 : ℝ) : EReal)

/-- All scales one. -/
abbrev ones : Scales := fun _ => 1

theorem ones_pos (k : Fin 3) : 0 < ones k := one_pos

section First

variable (x : VB Ideal)

theorem recip1_real (k : Fin 16) (r : Fin 128) (c : Fin 256) :
    recip1 (plane0 (slope x) (off0 x) (chunk x k)) (plane2 (slope x) (off2 x) (chunk x k)) (ix2 r c)
      = ((1 / den (SoftTopK.plane0 (units x r)) (SoftTopK.plane2 (units x r)) ones (place k c) : ℝ) : EReal) := by
  have e : den (SoftTopK.plane0 (units x r)) (SoftTopK.plane2 (units x r)) ones (place k c)
      = 1 + SoftTopK.plane0 (units x r) (place k c) + SoftTopK.plane2 (units x r) (place k c) := by unfold den; ring
  have hp := den_pos (SoftTopK.plane0_pos (units x r)) (SoftTopK.plane2_pos (units x r)) ones_pos (place k c)
  rw [recip1_at, plane0_real x, plane2_real x, w_one, ← EReal.coe_add, ← EReal.coe_add, ← e]
  exact div_real hp.ne' _

theorem first1_real (r : Fin 128) :
    first1 x (ix2 r 0) = ((col1 (SoftTopK.plane0 (units x r)) (SoftTopK.plane2 (units x r)) ones : ℝ) : EReal) :=
  total_real fun k c => recip1_real x k r c
theorem first2_real (r : Fin 128) :
    first2 x (ix2 r 0) = ((col2 (SoftTopK.plane0 (units x r)) (SoftTopK.plane2 (units x r)) ones : ℝ) : EReal) :=
  total_real fun k c => (congrArg₂ (· * ·) (plane2_real x k r c) (recip1_real x k r c)).trans (EReal.coe_mul _ _).symm

theorem start_real : Scaled (start0 x) (start1 x) (start2 x) (SoftTopK.step (units x) fun _ _ => 1) where
  a0 r := by
    have hp := left_pos (SoftTopK.plane0_pos (units x r)) (SoftTopK.plane2_pos (units x r)) ones_pos
    rw [start0_at, first1_real x, first2_real x, w_one, w_outer, w_all, ← EReal.coe_mul, ← EReal.coe_mul, ← EReal.coe_mul, ← EReal.coe_sub,
      ← EReal.coe_sub]
    exact div_real hp.ne' _
  a1 r := by
    rw [start1_at, first1_real x, w_mid]
    exact div_real (col1_pos (SoftTopK.plane0_pos (units x r)) (SoftTopK.plane2_pos (units x r)) ones_pos).ne' _
  a2 r := by
    rw [start2_at, first2_real x, w_outer]
    exact div_real (col2_pos (SoftTopK.plane0_pos (units x r)) (SoftTopK.plane2_pos (units x r)) ones_pos).ne' _

end First

/-! ## Any other step -/

section Next

variable {q0 q2 : VB Ideal} {s : Rows} (h0 : ∀ r j, q0 (ix2 r j) = ((SoftTopK.plane0 (s r) j : ℝ) : EReal))
  (h2 : ∀ r j, q2 (ix2 r j) = ((SoftTopK.plane2 (s r) j : ℝ) : EReal))
  {a0 a1 a2 : V1 Ideal} {a : Group} (ha : Scaled a0 a1 a2 a) (hp : ∀ r k, 0 < a r k)
include h0 h2 ha hp

theorem recip_real (k : Fin 16) (r : Fin 128) (c : Fin 256) : recip a0 a1 a2 (chunk q0 k) (chunk q2 k) (ix2 r c)
    = ((1 / den (SoftTopK.plane0 (s r)) (SoftTopK.plane2 (s r)) (a r) (place k c) : ℝ) : EReal) := by
  have hd := den_pos (SoftTopK.plane0_pos (s r)) (SoftTopK.plane2_pos (s r)) (hp r) (place k c)
  rw [recip_at, along_at, along_at, along_at, ha.a0, ha.a1, ha.a2, chunk_at, chunk_at, h0, h2, w_one, ← EReal.coe_mul, ← EReal.coe_mul,
    ← EReal.coe_add, ← EReal.coe_add]
  exact div_real hd.ne' _

theorem sum1_real (r : Fin 128) :
    sum1 q0 q2 a0 a1 a2 (ix2 r 0) = ((col1 (SoftTopK.plane0 (s r)) (SoftTopK.plane2 (s r)) (a r) : ℝ) : EReal) :=
  total_real fun k c => recip_real h0 h2 ha hp k r c
theorem sum2_real (r : Fin 128) :
    sum2 q0 q2 a0 a1 a2 (ix2 r 0) = ((col2 (SoftTopK.plane0 (s r)) (SoftTopK.plane2 (s r)) (a r) : ℝ) : EReal) :=
  total_real fun k c => (congrArg₂ (· * ·) ((chunk_at q2 k r c).trans (h2 r _)) (recip_real h0 h2 ha hp k r c)).trans
    (EReal.coe_mul _ _).symm

theorem next_real : Scaled (next0 q0 q2 a0 a1 a2) (next1 q0 q2 a0 a1 a2) (next2 q0 q2 a0 a1 a2) (SoftTopK.step s a) where
  a0 r := by
    rw [next0_at, sum1_real h0 h2 ha hp, sum2_real h0 h2 ha hp, ha.a0, ha.a1, ha.a2, w_outer, w_all, ← EReal.coe_mul, ← EReal.coe_mul,
      ← EReal.coe_mul, ← EReal.coe_sub, ← EReal.coe_sub]
    exact div_real (left_pos (SoftTopK.plane0_pos (s r)) (SoftTopK.plane2_pos (s r)) (hp r)).ne' _
  a1 r := by
    rw [next1_at, sum1_real h0 h2 ha hp, w_mid]
    exact div_real (col1_pos (SoftTopK.plane0_pos (s r)) (SoftTopK.plane2_pos (s r)) (hp r)).ne' _
  a2 r := by
    rw [next2_at, sum2_real h0 h2 ha hp, w_outer]
    exact div_real (col2_pos (SoftTopK.plane0_pos (s r)) (SoftTopK.plane2_pos (s r)) (hp r)).ne' _

/-- The output block read with scales `b`. -/
theorem outB_real {b0 b1 b2 : V1 Ideal} {b : Group} (hb : Scaled b0 b1 b2 b) (r : Fin 128) (j : Fin 4096) :
    outB a0 a1 a2 b0 b2 q0 q2 (ix2 r j) = ((SoftTopK.read (SoftTopK.plane0 (s r)) (SoftTopK.plane2 (s r)) (a r) (b r) j : ℝ) : EReal) := by
  have hd := den_pos (SoftTopK.plane0_pos (s r)) (SoftTopK.plane2_pos (s r)) (hp r) j
  rw [outB_at, alongB_at, alongB_at, alongB_at, alongB_at, alongB_at, ha.a0, ha.a1, ha.a2, hb.a0, hb.a2, h0, h2, w_one, ← EReal.coe_mul,
    ← EReal.coe_mul, ← EReal.coe_mul, ← EReal.coe_mul, ← EReal.coe_add, ← EReal.coe_add, ← EReal.coe_sub]
  exact (congrArg _ (div_real hd.ne' _)).trans (EReal.coe_mul _ _).symm

end Next

/-! ## The test -/

/-- The excess is above zero if and only if some scale moved beyond its tolerance. -/
theorem moves_excess {a0 a1 a2 b0 b1 b2 : V1 Ideal} {a b : Group} (ha : Scaled a0 a1 a2 a) (hb : Scaled b0 b1 b2 b) :
    moves (excess a0 a1 a2 b0 b1 b2) ↔ SoftTopK.Moved a b := by
  have e {u v : V1 Ideal} {r : Fin 128} {k : Fin 3} (hu : u (ix2 r 0) = ((a r k : ℝ) : EReal)) (hv : v (ix2 r 0) = ((b r k : ℝ) : EReal)) :
      beyond u v (ix2 r 0) = ((|b r k - a r k| - tol * a r k : ℝ) : EReal) := by
    rw [beyond_at, hu, hv, w_tol, ← EReal.coe_sub, abs_real, ← EReal.coe_mul, ← EReal.coe_sub]
  rw [moves_iff, excess_at, w_bot, fold_max, Finset.lt_sup_iff]
  constructor
  · rintro ⟨⟨r, _⟩, -, h⟩
    rcases lt_max_iff.mp h with h | h
    · rcases lt_max_iff.mp h with h | h
      · exact ⟨r, 0, EReal.coe_pos.mp (h.trans_eq (e (ha.a0 r) (hb.a0 r)))⟩
      · exact ⟨r, 1, EReal.coe_pos.mp (h.trans_eq (e (ha.a1 r) (hb.a1 r)))⟩
    · exact ⟨r, 2, EReal.coe_pos.mp (h.trans_eq (e (ha.a2 r) (hb.a2 r)))⟩
  · rintro ⟨r, k, h⟩
    refine ⟨(r, 0), Finset.mem_univ _, ?_⟩
    fin_cases k
    · exact lt_max_of_lt_left (lt_max_of_lt_left ((EReal.coe_pos.mpr h).trans_eq (e (ha.a0 r) (hb.a0 r)).symm))
    · exact lt_max_of_lt_left (lt_max_of_lt_right ((EReal.coe_pos.mpr h).trans_eq (e (ha.a1 r) (hb.a1 r)).symm))
    · exact lt_max_of_lt_right ((EReal.coe_pos.mpr h).trans_eq (e (ha.a2 r) (hb.a2 r)).symm)

end Cert.KernelIdeal.Stk

end
-- ==== Proof.KI.Value.lean ====
/- The kernel's output block. -/
module

public import proofs.«01_k».proof.Proof.KI.Real

@[expose] public section

set_option maxRecDepth 16384

noncomputable section

namespace Cert.KernelIdeal.Stk

open Cert.KernelIdeal Cert.KernelIdeal.Gen
open Idealize.ShloMosaic
open SoftTopK (Plane Scales Rows Group Stage hop stage start after step)

/-- What the loop carries is a stage of the rescaling. -/
structure Carried (t : Carry Ideal) (S : Stage) : Prop where
  scaled : Scaled t.a0 t.a1 t.a2 S.a
  moving : moves t.d ↔ S.moving
  pos : ∀ r k, 0 < S.a r k

section Loop

variable {q0 q2 : VB Ideal} {s : Rows} (h0 : ∀ r j, q0 (ix2 r j) = ((SoftTopK.plane0 (s r) j : ℝ) : EReal))
  (h2 : ∀ r j, q2 (ix2 r j) = ((SoftTopK.plane2 (s r) j : ℝ) : EReal))
include h0 h2

theorem trip_carried {t : Carry Ideal} {S : Stage} (h : Carried t S) :
    Carried (trip q0 q2 t) ⟨step s S.a, SoftTopK.Moved S.a (step s S.a)⟩ where
  scaled := next_real h0 h2 h.scaled h.pos
  moving := moves_excess h.scaled (next_real h0 h2 h.scaled h.pos)
  pos := SoftTopK.step_pos s h.pos

theorem loop_carried : ∀ (k : ℕ) {t : Carry Ideal} {S : Stage}, Carried t S → Carried (loop q0 q2 k t) ((hop s)^[k] S)
  | 0, _, _, h => h
  | k + 1, t, S, h => by
    rw [Function.iterate_succ_apply, loop]
    by_cases hm : S.moving
    · rw [if_pos (h.moving.mpr hm), show hop s S = ⟨step s S.a, SoftTopK.Moved S.a (step s S.a)⟩ from if_pos hm]
      exact loop_carried k (trip_carried h0 h2 h)
    · have e : hop s S = S := if_neg hm
      rw [if_neg fun h' => hm (h.moving.mp h'), e, Function.iterate_fixed e k]
      exact h

end Loop

section Result

variable (x : VB Ideal)

theorem enter_carried : Carried (enter x) (start (units x)) where
  scaled := start_real x
  moving := iff_of_true ((moves_iff _).mpr (lt_of_lt_of_eq (EReal.coe_pos.mpr one_pos) SoftTopK.w_one.symm)) trivial
  pos := SoftTopK.stage_pos (units x) 0

theorem done_carried : Carried (done x) (stage (units x) 198) := loop_carried (Q0_real x) (Q2_real x) 198 (enter_carried x)

theorem out_real : ∃ b1, Scaled (out0 x) b1 (out2 x) (after (units x) (stage (units x) 198)) := by
  have hd := done_carried x
  by_cases hm : (stage (units x) 198).moving
  · refine ⟨next1 (Q0 x) (Q2 x) (done x).a0 (done x).a1 (done x).a2, ?_⟩
    rw [show out0 x = _ from if_pos (hd.moving.mpr hm), show out2 x = _ from if_pos (hd.moving.mpr hm),
      show after (units x) (stage (units x) 198) = _ from if_pos hm]
    exact next_real (Q0_real x) (Q2_real x) hd.scaled hd.pos
  · refine ⟨(done x).a1, ?_⟩
    rw [show out0 x = _ from if_neg fun h' => hm (hd.moving.mp h'), show out2 x = _ from if_neg fun h' => hm (hd.moving.mp h'),
      show after (units x) (stage (units x) 198) = _ from if_neg hm]
    exact hd.scaled

/-- The output block. -/
theorem result_real (r : Fin 128) (j : Fin 4096) : result x (ix2 r j) = ((SoftTopK.output (units x) r j : ℝ) : EReal) := by
  have hd := done_carried x
  obtain ⟨b1, hb⟩ := out_real x
  exact outB_real (Q0_real x) (Q2_real x) hd.scaled hd.pos hb r j

end Result

end Cert.KernelIdeal.Stk

end
-- ==== Proof.KI.Array.lean ====
/- The output array after the run, by groups of 128 rows. -/
module

public import proofs.«01_k».proof.Proof.KI.Run
public import proofs.«01_k».proof.Proof.KI.Value

@[expose] public section

set_option maxRecDepth 16384

noncomputable section

namespace Cert.KernelIdeal.Stk

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window)
open SoftTopK (Plane Rows)

variable (m : (ℓ : Loc nD τ sig) → Buf (Elt Ideal) ℓ) (ρ : Dev nD → PrngReg)

/-- The row that a group holds at a place. -/
abbrev rowOf (g : Fin 4) (r : Fin 128) : Fin 512 := ⟨g.val * 128 + r.val, by omega⟩

/-- The output array from the scores moved to the unit interval. -/
def target (s : Fin 512 → Plane) : FVec Ideal S512x4096 .f32 := fun i =>
  ((SoftTopK.output (fun r => s (rowOf ⟨(i 0).val / 128, by have : (i 0).val < 512 := (i 0).isLt; omega⟩ r))
    ⟨(i 0).val % 128, Nat.mod_lt _ (by norm_num)⟩ (i 1) : ℝ) : EReal)

theorem target_row (s : Fin 512 → Plane) (g : Fin 4) (r : Fin 128) (j : Fin 4096) :
    target s (ix2 (rowOf g r) j) = ((SoftTopK.output (fun r => s (rowOf g r)) r j : ℝ) : EReal) := by
  have e : (⟨(rowOf g r).val / 128, by omega⟩ : Fin 4) = g := Fin.ext (by show (g.val * 128 + r.val) / 128 = g.val; omega)
  have e' : (⟨(rowOf g r).val % 128, Nat.mod_lt _ (by norm_num)⟩ : Fin 128) = r :=
    Fin.ext (by show (g.val * 128 + r.val) % 128 = r.val; omega)
  show ((SoftTopK.output (fun r' => s (rowOf ⟨(rowOf g r).val / 128, _⟩ r')) ⟨(rowOf g r).val % 128, _⟩ j : ℝ) : EReal) = _
  rw [e, e']

/-- The group that a point holds, and where the two windows are there. -/
abbrev groupOf (t : Fin (cfg0 (F := Ideal)).N) : Fin 4 := ⟨t.val, t.isLt⟩
theorem index_in : ∀ t : Fin (cfg0 (F := Ideal)).N, win0_0.index t = ![t.val, 0] := by decide +kernel
theorem index_out : ∀ t : Fin (cfg0 (F := Ideal)).N, win0_1.index t = ![t.val, 0] := by decide +kernel

theorem block_at (c : Dev nD) (t : Fin (cfg0 (F := Ideal)).N) (r : Fin 128) (j : Fin 4096) :
    (iblk m c 0 t : VB Ideal) (ix2 r j) = (m ((c.tc : Thread nD τ).loc main_arg0) : FVec Ideal S512x4096 .f32) (ix2 (rowOf (groupOf t) r) j) := by
  blk_ext [iblk, V, index_in t]

theorem emb_at (t : Fin (cfg0 (F := Ideal)).N) (r : Fin 128) (j : Fin 4096) :
    ((win0_1.blk t).view.emb (ix2 r j) : S512x4096.Idx) = ix2 (rowOf (groupOf t) r) j := by
  blk_ext [index_out t]

/-- The scores moved to the unit interval, row by row. -/
abbrev unitRows (x : FVec Ideal S512x4096 .f32) : Fin 512 → Plane := fun i => SoftTopK.unit fun j => x (ix2 i j)

theorem units_block (c : Dev nD) (t : Fin (cfg0 (F := Ideal)).N) :
    units (iblk m c 0 t) = fun r => unitRows (m ((c.tc : Thread nD τ).loc main_arg0)) (rowOf (groupOf t) r) :=
  funext fun r => congrArg SoftTopK.unit (funext fun j => block_at m c t r j)

theorem out_array (c : Dev nD) :
    (dats m 0 c).arrAt 1 (cfgs (F := Ideal) 0).N = target (unitRows (m ((c.tc : Thread nD τ).loc main_arg0))) := by
  refine (dats m 0 c).arrAt_eq_of_covers 1 _ (by decide +kernel) fun t hf y => ?_
  blk_simp
  rw [after1]
  obtain ⟨r, j, rfl⟩ : ∃ (r : Fin 128) (j : Fin 4096), y = ix2 r j := ⟨y 0, y 1, by funext a; fin_cases a <;> rfl⟩
  refine (result_real (iblk m c 0 t) r j).trans ?_
  rw [units_block]
  exact (target_row _ (groupOf t) r j).symm.trans (congrArg (target _) (emb_at t r j).symm)

/-- Every run ends with that output and the scores as they were. -/
theorem run_value : θ_run defs (onTc (τ := τ) (main (F := Ideal))) ⟨m, fun _ => 0, ρ⟩ (fun r => ∀ c : Dev nD,
      r.2.mem ((c.tc : Thread nD τ).loc main_v0) = target (unitRows (m ((c.tc : Thread nD τ).loc main_arg0)))
      ∧ r.2.mem ((c.tc : Thread nD τ).loc main_arg0) = m ((c.tc : Thread nD τ).loc main_arg0)) :=
  (θ_run defs _ _).mono (fun _ h c => ⟨((h.1 c).1 1).trans (out_array m c), ((h.1 c).1 0).trans ((dats m 0 c).arrAt_in 0 rfl _)⟩) (run_all m ρ)

end Cert.KernelIdeal.Stk

end
-- ==== Proof.RI.Run.lean ====
/- The reference's run: what its result buffer holds, as a function of the loop's step taken 200 times, and that it leaves its
   argument and the counters as they were. -/
module

public import proofs.«01_k».proof.Proof.Gen.ReferenceIdeal.Run
public import Idealize.ShloMosaic.Lib.Quiescent

@[expose] public section

set_option maxRecDepth 16384

noncomputable section

namespace Cert.ReferenceIdeal.Stk

open Idealize.ShloMosaic Idealize.ShloMosaic.TcCoe Idealize.ShloMosaic.StableHlo
open Idealize.SL Idealize.SL.Sem
open Cert.ReferenceIdeal.Gen Cert.ReferenceIdeal.Value

variable {F : FTy → Type} [FloatOps F]

/-- Arrays of the reference: scores, kernels, anchor potentials, a number a row. -/
abbrev VS (F : FTy → Type) := FVec F S512x4096 .f32
@[inherit_doc VS] abbrev VK (F : FTy → Type) := FVec F S512x4096x3 .f32
@[inherit_doc VS] abbrev VV (F : FTy → Type) := FVec F S512x3 .f32
@[inherit_doc VS] abbrev VR (F : FTy → Type) := FVec F S512x1 .f32

/-- The smallest score of every row, as a column. -/
def low (s : VS F) : VR F := broadcastInDim S512x1 ![0] bcast_S512_S512x1_0
  (Host.reduce FloatOps.minimumf s (constant S_ .f32 0x7F800000#32) reducesTo_S512x4096_S512_d1 h_S_)
/-- The largest score of every row, as a column. -/
def high (s : VS F) : VR F := broadcastInDim S512x1 ![0] bcast_S512_S512x1_0
  (Host.reduce FloatOps.maximumf s (constant S_ .f32 0xFF800000#32) reducesTo_S512x4096_S512_d1 h_S_)
/-- The scores moved to the unit interval, row by row. -/
def unitScores (s : VS F) : VS F := Host.divf
  (subf s (broadcastInDim S512x4096 ![0, 1] bcast_S512x1_S512x4096_0_1 (low s)))
  (broadcastInDim S512x4096 ![0, 1] bcast_S512x1_S512x4096_0_1
    (addf (subf (high s) (low s)) (broadcastInDim S512x1 ![] bcast_S_S512x1 (constant S_ .f32 0x2B8CBCCC#32))))
/-- The distance of every score to every anchor. -/
def gap (s : VS F) : VK F := subf
  (broadcastInDim S512x4096x3 ![0, 1, 2] bcast_S512x4096x1_S512x4096x3_0_1_2
    (broadcastInDim S512x4096x1 ![0, 1] bcast_S512x4096_S512x4096x1_0_1 (unitScores s)))
  (broadcastInDim S512x4096x3 ![0, 1, 2] bcast_S1x1x3_S512x4096x3_0_1_2
    (broadcastInDim S1x1x3 ![2] bcast_S3_S1x1x3_2 (fun i => FloatOps.ofBits .f32 (lit0 (S3.rowMajor i)))))
/-- The logarithm of the Gibbs kernel. -/
def logKernel (s : VS F) : VK F := Host.divf (Host.negf (mulf (gap s) (gap s)))
  (broadcastInDim S512x4096x3 ![] bcast_S_S512x4096x3
    (Host.divf (constant S_ .f32 0x3F800000#32) (constant S_ .f32 0x41200000#32)))
/-- The logarithm of a score's share. -/
def logMu : S_.Idx → F .f32 := Host.negf (Host.log (constant S_ .f32 0x45800000#32))
/-- The logarithm of every anchor's share. -/
def logNu : S3.Idx → F .f32 := Host.log (fun i => FloatOps.ofBits .f32 (lit1 (S3.rowMajor i)))

/-- The transport plan of the potentials `u` and `v`. -/
def plan (K : VK F) (u : VS F) (v : VV F) : VK F := Host.exp (addf
  (addf K (broadcastInDim S512x4096x3 ![0, 1, 2] bcast_S512x4096x1_S512x4096x3_0_1_2
    (broadcastInDim S512x4096x1 ![0, 1] bcast_S512x4096_S512x4096x1_0_1 u)))
  (broadcastInDim S512x4096x3 ![0, 1, 2] bcast_S512x1x3_S512x4096x3_0_1_2
    (broadcastInDim S512x1x3 ![0, 2] bcast_S512x3_S512x1x3_0_2 v)))
/-- The result: the mass sent to the top anchor less the mass sent to the bottom one, in shares of a score. -/
def answer (K : VK F) (u : VS F) (v : VV F) : VS F := mulf
  (subf
    (shapeCast S512x4096 (extractStridedSlice S512x4096x1 ![0, 0, 2] (plan K u v) slices_S512x4096x3_S512x4096x1_0_0_2)
      shapeCasts_S512x4096x1_S512x4096)
    (shapeCast S512x4096 (extractStridedSlice S512x4096x1 ![0, 0, 0] (plan K u v) slices_S512x4096x3_S512x4096x1_0_0_0)
      shapeCasts_S512x4096x1_S512x4096))
  (broadcastInDim S512x4096 ![] bcast_S_S512x4096 (constant S_ .f32 0x45800000#32))

variable (m : (ℓ : Loc nD τ sig) → Buf (Elt F) ℓ) (ρ : Dev nD → PrngReg)

/-- The scores a device starts with. -/
abbrev scores (c : Dev nD) : VS F := m ((c.tc : Thread nD τ).loc main_arg0)

/-- The buffers the loop carries, before trip `k`. -/
abbrev at' (c : Dev nD) (k : ℕ) : Valuation τ sig (Elt F) := STEP^[k] (entryContents preI m c)

theorem entry_K (c : Dev nD) : entryContents preI m c (Proc.devRef .tc main_v27_0) = logKernel (scores m c) := by
  simp only [entryContents, afterL_cons, afterL_nil]
  after_reads_simp
  rfl
theorem entry_v20 (c : Dev nD) : entryContents preI m c (Proc.devRef .tc main_v20) = logKernel (scores m c) := by
  simp only [entryContents, afterL_cons, afterL_nil]
  after_reads_simp
  rfl
theorem entry_mu (c : Dev nD) : entryContents preI m c (Proc.devRef .tc main_v27_1) = logMu := by
  simp only [entryContents, afterL_cons, afterL_nil]
  after_reads_simp
  rfl
theorem entry_nu (c : Dev nD) : entryContents preI m c (Proc.devRef .tc main_v27_2) = logNu := by
  simp only [entryContents, afterL_cons, afterL_nil]
  after_reads_simp
  rfl
theorem entry_v (c : Dev nD) : entryContents preI m c (Proc.devRef .tc main_v27_5)
    = broadcastInDim S512x3 ![] bcast_S_S512x3 (constant S_ .f32 0x00000000#32) := by
  simp only [entryContents, afterL_cons, afterL_nil]
  after_reads_simp
  rfl
theorem entry_moving (c : Dev nD) : entryContents preI m c (Proc.devRef .tc main_v27_6)
    = broadcastInDim S4x1x1 ![] bcast_S_S4x1x1 (constant S_ .f32 0x40000000#32) := by
  simp only [entryContents, afterL_cons, afterL_nil]
  after_reads_simp
  rfl

/-- A buffer the loop does not write. -/
structure Kept (b : Ref sig .tc) : Prop where
  cond : b ∉ condOps_W
  w0 : b ∉ while0Ops0_W
  w1 : b ∉ while0Ops0_1_W
  w2 : b ∉ while0Ops0_2_W
  w3 : b ∉ while0Ops0_3_W
  w4 : b ∉ while0Ops0_4_W
  w5 : b ∉ while0Ops0_5_W
  w6 : b ∉ while0Ops0_6_W

/-- It holds before every trip what it held at the loop's entry. -/
theorem atK_kept {b : Ref sig .tc} (h : Kept b) (c : Dev nD) :
    ∀ k, atK m k c (Proc.devRef .tc b) = entryContents preI m c (Proc.devRef .tc b)
  | 0 => rfl
  | k + 1 => by
    rw [show atK m (k + 1) c = afterL bodyI (after condOps (atK m k c)) from rfl]
    simp only [afterL_cons, afterL_nil]
    rw [after_of_writes_sub while0Ops0_6 _ while0Ops0_6_writes h.w6, after_of_writes_sub while0Ops0_5 _ while0Ops0_5_writes h.w5,
      after_of_writes_sub while0Ops0_4 _ while0Ops0_4_writes h.w4, after_of_writes_sub while0Ops0_3 _ while0Ops0_3_writes h.w3,
      after_of_writes_sub while0Ops0_2 _ while0Ops0_2_writes h.w2, after_of_writes_sub while0Ops0_1 _ while0Ops0_1_writes h.w1,
      after_of_writes_sub while0Ops0 _ while0Ops0_writes h.w0, after_of_writes_sub condOps _ condOps_writes h.cond, atK_kept h c k]
    rfl

theorem kept_arg : Kept main_arg0 := ⟨by decide +kernel, by decide +kernel, by decide +kernel, by decide +kernel, by decide +kernel,
  by decide +kernel, by decide +kernel, by decide +kernel⟩
theorem kept_v20 : Kept main_v20 := ⟨by decide +kernel, by decide +kernel, by decide +kernel, by decide +kernel, by decide +kernel,
  by decide +kernel, by decide +kernel, by decide +kernel⟩

/-- The scores are at the end what they were at the start. -/
theorem final_arg (c : Dev nD) : finalContents condOps preI bodyI postI 200 m c (Proc.devRef .tc main_arg0) = scores m c := by
  simp only [finalContents, afterL_cons, afterL_nil]
  after_reads_simp
  refine (atK_kept m kept_arg c 200).trans ?_
  simp only [entryContents, afterL_cons, afterL_nil]
  exact after_of_writes_sub hostOps0 _ hostOps0_writes (by decide +kernel)

/-- The result is the answer of the potentials after 200 trips. -/
theorem final_out (c : Dev nD) : finalContents condOps preI bodyI postI 200 m c (Proc.devRef .tc main_v41)
    = answer (logKernel (scores m c)) (at' m c 200 (Proc.devRef .tc main_v27_4)) (at' m c 200 (Proc.devRef .tc main_v27_5)) := by
  have hu := (cond_keeps (atK m 200 c) main_v27_4 (by decide)).trans (atK_agree m c 200 main_v27_4 (by decide))
  have hv := (cond_keeps (atK m 200 c) main_v27_5 (by decide)).trans (atK_agree m c 200 main_v27_5 (by decide))
  have hK := (after_of_writes_sub condOps (atK m 200 c) condOps_writes kept_v20.cond).trans
    ((atK_kept m kept_v20 c 200).trans (entry_v20 m c))
  unfold at'
  rw [← hu, ← hv, ← hK]
  simp only [finalContents, afterL_cons, afterL_nil]
  generalize after condOps (atK m 200 c) = V
  after_results
  rfl

/-- The reference runs, leaves its argument and every counter as they were, and leaves the answer in its result. -/
theorem run_all : θ_run (defs (F := F)) (onTc (τ := τ) (main (F := F))) ⟨m, fun _ => 0, ρ⟩
    (fun r => (∀ c : Dev nD,
        r.2.mem ((c.tc : Thread nD τ).loc main_v41)
          = answer (logKernel (scores m c)) (at' m c 200 (Proc.devRef .tc main_v27_4)) (at' m c 200 (Proc.devRef .tc main_v27_5))
        ∧ r.2.mem ((c.tc : Thread nD τ).loc main_arg0) = m ((c.tc : Thread nD τ).loc main_arg0))
      ∧ r.2.sem = fun _ => 0) :=
  (θ_run defs _ _).mono (fun r h =>
    ⟨fun c => ⟨(h c main_v41 rfl).trans (final_out m c), (h c main_arg0 rfl).trans (final_arg m c)⟩,
      sem_eq_zero_of_no_sems (by decide) _⟩) (run_fold m ρ)

end Cert.ReferenceIdeal.Stk

end
-- ==== Proof.RI.Ops.lean ====
/- The operations of one trip of the reference's loop as functions of plain arrays, and the trip in their terms. -/
module

public import proofs.«01_k».proof.Proof.RI.Run

@[expose] public section

set_option maxRecDepth 16384

noncomputable section

namespace Cert.ReferenceIdeal.Stk

open Idealize.ShloMosaic Idealize.ShloMosaic.TcCoe Idealize.ShloMosaic.StableHlo
open Cert.ReferenceIdeal.Gen Cert.ReferenceIdeal.Value

variable {F : FTy → Type} [FloatOps F]

/-- Potentials of the anchors by groups of 128 rows; a number for every group. -/
abbrev V4 (F : FTy → Type) := FVec F S4x128x3 .f32
/-- A number for every group. -/
abbrev VM (F : FTy → Type) := FVec F S4x1x1 .f32

/-- The kernel's exponent with the anchors' potentials added, and with the scores' potentials added. -/
def withV (K : VK F) (v : VV F) : VK F := addf K (broadcastInDim S512x4096x3 ![0, 1, 2] bcast_S512x1x3_S512x4096x3_0_1_2
  (broadcastInDim S512x1x3 ![0, 2] bcast_S512x3_S512x1x3_0_2 v))
/-- The same with the scores' potentials. -/
def withU (K : VK F) (u : VS F) : VK F := addf K (broadcastInDim S512x4096x3 ![0, 1, 2] bcast_S512x4096x1_S512x4096x3_0_1_2
  (broadcastInDim S512x4096x1 ![0, 1] bcast_S512x4096_S512x4096x1_0_1 u))

/-- The largest along the anchors, and the logarithm of the sum of exponentials along them. -/
def top2 (z : VK F) : VS F := Host.reduce FloatOps.maximumf z (constant S_ .f32 0xFF800000#32) reducesTo_S512x4096x3_S512x4096_d2 h_S_
/-- The logarithm of the sum of exponentials along the anchors. -/
def lse2 (z : VK F) : VS F := addf (Host.log (Host.reduceAdd
    (Host.exp (subf z (broadcastInDim S512x4096x3 ![0, 1, 2] bcast_S512x4096x1_S512x4096x3_0_1_2
      (broadcastInDim S512x4096x1 ![0, 1] bcast_S512x4096_S512x4096x1_0_1 (top2 z)))))
    (constant S_ .f32 0x00000000#32) reducesTo_S512x4096x3_S512x4096_d2 h_S_)) (top2 z)

/-- The largest along the scores, -/
def top1 (z : VK F) : VV F := Host.reduce FloatOps.maximumf z (constant S_ .f32 0xFF800000#32) reducesTo_S512x4096x3_S512x3_d1 h_S_
/-- and the logarithm of the sum of exponentials along them. -/
def lse1 (z : VK F) : VV F := addf (Host.log (Host.reduceAdd
    (Host.exp (subf z (broadcastInDim S512x4096x3 ![0, 1, 2] bcast_S512x1x3_S512x4096x3_0_1_2
      (broadcastInDim S512x1x3 ![0, 2] bcast_S512x3_S512x1x3_0_2 (top1 z)))))
    (constant S_ .f32 0x00000000#32) reducesTo_S512x4096x3_S512x3_d1 h_S_)) (top1 z)

/-- The scores' potentials from the anchors', and the anchors' new ones from those. -/
def newU (K : VK F) (mu : FVec F S_ .f32) (v : VV F) : VS F := subf (broadcastInDim S512x4096 ![] bcast_S_S512x4096 mu) (lse2 (withV K v))
/-- The anchors' new potentials. -/
def newV (K : VK F) (nu : FVec F S3 .f32) (u : VS F) : VV F :=
  subf (broadcastInDim S512x3 ![0, 1] bcast_S1x3_S512x3_0_1 (broadcastInDim S1x3 ![1] bcast_S3_S1x3_1 nu)) (lse1 (withU K u))

/-- By groups. -/
def grouped (v : VV F) : V4 F := shapeCast S4x128x3 v shapeCasts_S512x3_S4x128x3
/-- A number at every group. -/
def splat (w : BitVec 32) : VM F := broadcastInDim S4x1x1 ![] bcast_S_S4x1x1 (constant S_ .f32 w)

/-- The largest distance a scale of a group moved, beyond its tolerance. -/
def exceed (v w : VV F) : VM F := broadcastInDim S4x1x1 ![0] bcast_S4_S4x1x1_0
  (Host.reduce FloatOps.maximumf
    (subf (Host.absf (subf (grouped (Host.exp w)) (grouped (Host.exp v))))
      (mulf (broadcastInDim S4x128x3 ![] bcast_S_S4x128x3 (constant S_ .f32 0x360637BD#32)) (grouped (Host.exp v))))
    (constant S_ .f32 0xFF800000#32) reducesTo_S4x128x3_S4_d1_2 h_S_)

/-- The potentials kept: the new ones where the group still moves. -/
def keepV (v w : VV F) (mv : VM F) : VV F := shapeCast S512x3
  (select (broadcastInDim S4x128x3 ![0, 1, 2] bcast_S4x1x1_S4x128x3_0_1_2 (cmpf .ogt mv (splat 0x00000000#32))) (grouped w) (grouped v))
  shapeCasts_S4x128x3_S512x3
/-- Whether the group still moves. -/
def keepM (v w : VV F) (mv : VM F) : VM F := select (cmpf .ogt mv (splat 0x3F800000#32)) (splat 0x3F800000#32)
  (select (cmpf .ogt (exceed v w) (splat 0x00000000#32)) mv (splat 0x00000000#32))

/-- One trip on the buffers it carries. -/
theorem step_u (V : Valuation τ sig (Elt F)) : STEP V (Proc.devRef .tc main_v27_4)
    = newU (V (Proc.devRef .tc main_v27_0)) (V (Proc.devRef .tc main_v27_1)) (V (Proc.devRef .tc main_v27_5)) :=
  STEP_main_v27_4 V
theorem new_v (V : Valuation τ sig (Elt F)) : res_main_while0b_v68 V
    = newV (V (Proc.devRef .tc main_v27_0)) (V (Proc.devRef .tc main_v27_2))
        (newU (V (Proc.devRef .tc main_v27_0)) (V (Proc.devRef .tc main_v27_1)) (V (Proc.devRef .tc main_v27_5))) := rfl
theorem step_v (V : Valuation τ sig (Elt F)) : STEP V (Proc.devRef .tc main_v27_5)
    = keepV (V (Proc.devRef .tc main_v27_5)) (res_main_while0b_v68 V) (V (Proc.devRef .tc main_v27_6)) :=
  STEP_main_v27_5 V
theorem step_m (V : Valuation τ sig (Elt F)) : STEP V (Proc.devRef .tc main_v27_6)
    = keepM (V (Proc.devRef .tc main_v27_5)) (res_main_while0b_v68 V) (V (Proc.devRef .tc main_v27_6)) :=
  STEP_main_v27_6 V

end Cert.ReferenceIdeal.Stk

end
-- ==== Proof.RI.Read.lean ====
/- The reference's operations read at an index, over the extended reals. -/
module

public import proofs.«01_k».proof.Proof.RI.Ops
public import Idealize.ShloMosaic.Lib.Pointwise
public import Idealize.ShloMosaic.Lib.IdealHost
public import Idealize.ShloMosaic.PureOps.Ideal.Laws

@[expose] public section

set_option maxRecDepth 16384

noncomputable section

namespace Cert.ReferenceIdeal.Stk

open Idealize.ShloMosaic Idealize.ShloMosaic.TcCoe Idealize.ShloMosaic.StableHlo
open Cert.ReferenceIdeal.Gen Cert.ReferenceIdeal.Value

theorem low_at (s : VS Ideal) (i : Fin 512) :
    low s (ix2 i 0) = Finset.univ.fold min (Ideal.ofBits .f32 0x7F800000#32) fun j : Fin 4096 => s (ix2 i j) := by
  unfold low
  pointwise

theorem high_at (s : VS Ideal) (i : Fin 512) :
    high s (ix2 i 0) = Finset.univ.fold max (Ideal.ofBits .f32 0xFF800000#32) fun j : Fin 4096 => s (ix2 i j) := by
  unfold high
  pointwise

theorem unitScores_at (s : VS Ideal) (i : Fin 512) (j : Fin 4096) :
    unitScores s (ix2 i j) = Ideal.div (s (ix2 i j) - low s (ix2 i 0))
      (high s (ix2 i 0) - low s (ix2 i 0) + Ideal.ofBits .f32 0x2B8CBCCC#32) := by
  unfold unitScores
  pointwise

theorem gap_at (s : VS Ideal) (i : Fin 512) (j : Fin 4096) (k : Fin 3) :
    gap s (ix3 i j k) = unitScores s (ix2 i j) - Ideal.ofBits .f32 (lit0 (S3.rowMajor (ix1 k))) := by
  unfold gap
  pointwise

theorem logKernel_at (s : VS Ideal) (i : Fin 512) (j : Fin 4096) (k : Fin 3) :
    logKernel s (ix3 i j k) = Ideal.div (-(gap s (ix3 i j k) * gap s (ix3 i j k)))
      (Ideal.div (Ideal.ofBits .f32 0x3F800000#32) (Ideal.ofBits .f32 0x41200000#32)) := by
  unfold logKernel
  pointwise

theorem logMu_at : logMu (F := Ideal) ix0 = -Ideal.log (Ideal.ofBits .f32 0x45800000#32) := rfl

theorem logNu_at (k : Fin 3) : logNu (F := Ideal) (ix1 k) = Ideal.log (Ideal.ofBits .f32 (lit1 (S3.rowMajor (ix1 k)))) := rfl

theorem withV_at (K : VK Ideal) (v : VV Ideal) (i : Fin 512) (j : Fin 4096) (k : Fin 3) :
    withV K v (ix3 i j k) = K (ix3 i j k) + v (ix2 i k) := by
  unfold withV
  pointwise

theorem withU_at (K : VK Ideal) (u : VS Ideal) (i : Fin 512) (j : Fin 4096) (k : Fin 3) :
    withU K u (ix3 i j k) = K (ix3 i j k) + u (ix2 i j) := by
  unfold withU
  pointwise

theorem newU_at (K : VK Ideal) (mu : FVec Ideal S_ .f32) (v : VV Ideal) (i : Fin 512) (j : Fin 4096) :
    newU K mu v (ix2 i j) = mu ix0 - lse2 (withV K v) (ix2 i j) := by
  unfold newU
  pointwise

theorem newV_at (K : VK Ideal) (nu : FVec Ideal S3 .f32) (u : VS Ideal) (i : Fin 512) (k : Fin 3) :
    newV K nu u (ix2 i k) = nu (ix1 k) - lse1 (withU K u) (ix2 i k) := by
  unfold newV
  pointwise

theorem plan_at (K : VK Ideal) (u : VS Ideal) (v : VV Ideal) (i : Fin 512) (j : Fin 4096) (k : Fin 3) :
    plan K u v (ix3 i j k) = Ideal.exp (K (ix3 i j k) + u (ix2 i j) + v (ix2 i k)) := by
  unfold plan
  pointwise

theorem answer_at (K : VK Ideal) (u : VS Ideal) (v : VV Ideal) (i : Fin 512) (j : Fin 4096) :
    answer K u v (ix2 i j) = (plan K u v (ix3 i j 2) - plan K u v (ix3 i j 0)) * Ideal.ofBits .f32 0x45800000#32 := by
  unfold answer
  pointwise

end Cert.ReferenceIdeal.Stk

end
-- ==== Proof.RI.ReadSum.lean ====
/- The reference's logarithms of sums of exponentials read at an index, over the extended reals. -/
module

public import proofs.«01_k».proof.Proof.RI.Ops
public import Idealize.ShloMosaic.Lib.Pointwise
public import Idealize.ShloMosaic.Lib.IdealHost
public import Idealize.ShloMosaic.PureOps.Ideal.Laws

@[expose] public section

set_option maxRecDepth 16384

noncomputable section

namespace Cert.ReferenceIdeal.Stk

open Idealize.ShloMosaic Idealize.ShloMosaic.TcCoe Idealize.ShloMosaic.StableHlo
open Cert.ReferenceIdeal.Gen Cert.ReferenceIdeal.Value

theorem top2_at (z : VK Ideal) (i : Fin 512) (j : Fin 4096) :
    top2 z (ix2 i j) = Finset.univ.fold max (Ideal.ofBits .f32 0xFF800000#32) fun k : Fin 3 => z (ix3 i j k) := by
  unfold top2
  pointwise

theorem top1_at (z : VK Ideal) (i : Fin 512) (k : Fin 3) :
    top1 z (ix2 i k) = Finset.univ.fold max (Ideal.ofBits .f32 0xFF800000#32) fun j : Fin 4096 => z (ix3 i j k) := by
  unfold top1
  pointwise

theorem lse2_at (z : VK Ideal) (i : Fin 512) (j : Fin 4096) :
    lse2 z (ix2 i j) = Ideal.log (∑ k : Fin 3, Ideal.exp (z (ix3 i j k) - top2 z (ix2 i j))) + top2 z (ix2 i j) := by
  unfold lse2
  pointwise

theorem lse1_at (z : VK Ideal) (i : Fin 512) (k : Fin 3) :
    lse1 z (ix2 i k) = Ideal.log (∑ j : Fin 4096, Ideal.exp (z (ix3 i j k) - top1 z (ix2 i k))) + top1 z (ix2 i k) := by
  unfold lse1
  pointwise

end Cert.ReferenceIdeal.Stk

end
-- ==== Proof.RI.ReadGroup.lean ====
/- The reference's choices by groups of rows read at an index, over the extended reals. -/
module

public import proofs.«01_k».proof.Proof.RI.Ops
public import Idealize.ShloMosaic.Lib.Pointwise
public import Idealize.ShloMosaic.Lib.IdealHost
public import Idealize.ShloMosaic.PureOps.Ideal.Laws

@[expose] public section

set_option maxRecDepth 16384

noncomputable section

namespace Cert.ReferenceIdeal.Stk

open Idealize.ShloMosaic Idealize.ShloMosaic.TcCoe Idealize.ShloMosaic.StableHlo
open Cert.ReferenceIdeal.Gen Cert.ReferenceIdeal.Value

/-- The row that a group holds at a place. -/
abbrev rowOf (g : Fin 4) (r : Fin 128) : Fin 512 := ⟨g.val * 128 + r.val, by omega⟩

theorem exceed_at (v w : VV Ideal) (g : Fin 4) :
    exceed v w (ix3 g 0 0) = (Finset.univ : Finset (Fin 128 × Fin 3)).fold max (Ideal.ofBits .f32 0xFF800000#32) fun x =>
      FloatOps.absf (Ideal.exp (w (ix2 (rowOf g x.1) x.2)) - Ideal.exp (v (ix2 (rowOf g x.1) x.2)) : Ideal .f32)
        - Ideal.ofBits .f32 0x360637BD#32 * Ideal.exp (v (ix2 (rowOf g x.1) x.2)) := by
  unfold exceed grouped
  pointwise

theorem keepV_row (v w : VV Ideal) (mv : VM Ideal) (i : Fin 512) (k : Fin 3) :
    keepV v w mv (ix2 i k) = if 0 < mv (ix3 ⟨i.val / 128, by omega⟩ 0 0) then w (ix2 i k) else v (ix2 i k) := by
  unfold keepV grouped splat
  pointwise

theorem keepV_at (v w : VV Ideal) (mv : VM Ideal) (g : Fin 4) (r : Fin 128) (k : Fin 3) :
    keepV v w mv (ix2 (rowOf g r) k) = if 0 < mv (ix3 g 0 0) then w (ix2 (rowOf g r) k) else v (ix2 (rowOf g r) k) := by
  have e : (⟨(rowOf g r).val / 128, by omega⟩ : Fin 4) = g := Fin.ext (by show (g.val * 128 + r.val) / 128 = g.val; omega)
  have h := keepV_row v w mv (rowOf g r) k
  rwa [e] at h

theorem keepM_at (v w : VV Ideal) (mv : VM Ideal) (g : Fin 4) :
    keepM v w mv (ix3 g 0 0) = if Ideal.ofBits .f32 0x3F800000#32 < mv (ix3 g 0 0) then Ideal.ofBits .f32 0x3F800000#32
      else if 0 < exceed v w (ix3 g 0 0) then mv (ix3 g 0 0) else 0 := by
  unfold keepM splat
  pointwise

end Cert.ReferenceIdeal.Stk

end
-- ==== Proof.RI.Real.lean ====
/- The reference's operations on scores and on real potentials are the real ones. -/
module

public import proofs.«01_k».proof.Proof.RI.Read
public import proofs.«01_k».proof.Proof.RI.ReadSum
public import proofs.«01_k».proof.Proof.RI.ReadGroup
public import proofs.«01_k».proof.Proof.Math.Unit

@[expose] public section

set_option maxRecDepth 16384

noncomputable section

namespace Cert.ReferenceIdeal.Stk

open Idealize.ShloMosaic Idealize.ShloMosaic.TcCoe Idealize.ShloMosaic.StableHlo
open Cert.ReferenceIdeal.Gen Cert.ReferenceIdeal.Value
open SoftTopK (Plane Scales expo pot newPot share tol div_real log_real abs_real sum_real fold_max fold_min sup_real shifted_log
  w_top w_bot w_one w_half w_two w_ten w_all w_eighth w_most w_tol w_small)
open scoped BigOperators

/-! ## The kernel's exponent -/

section Exponent

variable (x : VS Ideal)

theorem low_eq (i : Fin 512) : low x (ix2 i 0) = Finset.univ.inf fun j => x (ix2 i j) := by
  rw [low_at, w_top]
  exact fold_min _ _
theorem high_eq (i : Fin 512) : high x (ix2 i 0) = Finset.univ.sup fun j => x (ix2 i j) := by
  rw [high_at, w_bot]
  exact fold_max _ _

/-- The scores moved to the unit interval, row by row. -/
abbrev unitRows : Fin 512 → Plane := fun i => SoftTopK.unit fun j => x (ix2 i j)

theorem unitScores_real (i : Fin 512) (j : Fin 4096) : unitScores x (ix2 i j) = ((unitRows x i j : ℝ) : EReal) := by
  rw [unitScores_at, low_eq, high_eq, w_small]
  exact SoftTopK.unit_div (fun j => x (ix2 i j)) j

theorem anchor_word (k : Fin 3) : Ideal.ofBits .f32 (lit0 (S3.rowMajor (ix1 k))) = ((SoftTopK.anchor k : ℝ) : EReal) := by
  fin_cases k
  · exact Ideal.ofBits_zero_f32.trans EReal.coe_zero.symm
  · exact w_half
  · exact w_one

theorem logKernel_real (i : Fin 512) (j : Fin 4096) (k : Fin 3) :
    logKernel x (ix3 i j k) = ((expo (unitRows x i) j k : ℝ) : EReal) := by
  rw [logKernel_at, gap_at, unitScores_real, anchor_word, w_one, w_ten, div_real (by norm_num), ← EReal.coe_sub, ← EReal.coe_mul,
    ← EReal.coe_neg]
  exact div_real (by norm_num) _

end Exponent

theorem logMu_real : logMu (F := Ideal) ix0 = ((-Real.log 4096 : ℝ) : EReal) := by
  rw [logMu_at, w_all, log_real (by norm_num), ← EReal.coe_neg]

theorem logNu_real (k : Fin 3) : logNu (F := Ideal) (ix1 k) = ((Real.log (share k) : ℝ) : EReal) := by
  rw [logNu_at]
  have e : Ideal.ofBits .f32 (lit1 (S3.rowMajor (ix1 k))) = ((share k : ℝ) : EReal) := by
    fin_cases k
    · exact w_eighth
    · exact w_most
    · exact w_eighth
  rw [e, log_real (SoftTopK.share_pos k)]

/-! ## The potentials -/

theorem lse2_real {z : VK Ideal} {i : Fin 512} {j : Fin 4096} {f : Fin 3 → ℝ} (h : ∀ k, z (ix3 i j k) = ((f k : ℝ) : EReal)) :
    lse2 z (ix2 i j) = ((Real.log (∑ k, Real.exp (f k)) : ℝ) : EReal) := by
  have ht : top2 z (ix2 i j) = ((Finset.univ.sup' ⟨0, Finset.mem_univ _⟩ f : ℝ) : EReal) := by
    rw [top2_at, w_bot]
    simp only [h]
    exact (fold_max _ _).trans (sup_real _ ⟨0, Finset.mem_univ _⟩ _)
  rw [lse2_at, ht]
  simp only [h]
  exact shifted_log _ ⟨0, Finset.mem_univ _⟩ _ _

theorem lse1_real {z : VK Ideal} {i : Fin 512} {k : Fin 3} {f : Fin 4096 → ℝ} (h : ∀ j, z (ix3 i j k) = ((f j : ℝ) : EReal)) :
    lse1 z (ix2 i k) = ((Real.log (∑ j, Real.exp (f j)) : ℝ) : EReal) := by
  have ht : top1 z (ix2 i k) = ((Finset.univ.sup' ⟨0, Finset.mem_univ _⟩ f : ℝ) : EReal) := by
    rw [top1_at, w_bot]
    simp only [h]
    exact (fold_max _ _).trans (sup_real _ ⟨0, Finset.mem_univ _⟩ _)
  rw [lse1_at, ht]
  simp only [h]
  exact shifted_log _ ⟨0, Finset.mem_univ _⟩ _ _

section Potentials

variable {K : VK Ideal} {s : Fin 512 → Plane} (hK : ∀ i j k, K (ix3 i j k) = ((expo (s i) j k : ℝ) : EReal))
  {v : VV Ideal} {p : Fin 512 → Scales} (hv : ∀ i k, v (ix2 i k) = ((p i k : ℝ) : EReal))
include hK hv

theorem newU_real (i : Fin 512) (j : Fin 4096) : newU K logMu v (ix2 i j) = ((pot (expo (s i)) (p i) j : ℝ) : EReal) := by
  have h (k : Fin 3) : withV K v (ix3 i j k) = ((expo (s i) j k + p i k : ℝ) : EReal) := by
    rw [withV_at, hK, hv, ← EReal.coe_add]
  rw [newU_at, lse2_real h, logMu_real, ← EReal.coe_sub]
  rfl

theorem newV_real (i : Fin 512) (k : Fin 3) :
    newV K logNu (newU K logMu v) (ix2 i k) = ((newPot (expo (s i)) (p i) k : ℝ) : EReal) := by
  have h (j : Fin 4096) : withU K (newU K logMu v) (ix3 i j k) = ((expo (s i) j k + pot (expo (s i)) (p i) j : ℝ) : EReal) := by
    rw [withU_at, hK, newU_real hK hv, ← EReal.coe_add]
  rw [newV_at, lse1_real h, logNu_real, ← EReal.coe_sub]
  rfl

end Potentials

/-- Some scale of the group moved beyond its tolerance. -/
theorem exceed_pos {v w : VV Ideal} {p q : Fin 512 → Scales} (hv : ∀ i k, v (ix2 i k) = ((p i k : ℝ) : EReal))
    (hw : ∀ i k, w (ix2 i k) = ((q i k : ℝ) : EReal)) (g : Fin 4) :
    0 < exceed v w (ix3 g 0 0) ↔ SoftTopK.Moved (fun r k => Real.exp (p (rowOf g r) k)) (fun r k => Real.exp (q (rowOf g r) k)) := by
  have e (i : Fin 512) (k : Fin 3) : (FloatOps.absf (Ideal.exp (w (ix2 i k)) - Ideal.exp (v (ix2 i k)) : Ideal .f32) : Ideal .f32)
      - Ideal.ofBits .f32 0x360637BD#32 * Ideal.exp (v (ix2 i k))
      = ((|Real.exp (q i k) - Real.exp (p i k)| - tol * Real.exp (p i k) : ℝ) : EReal) := by
    rw [hv, hw, w_tol, Ideal.exp_coe, Ideal.exp_coe, ← EReal.coe_sub, abs_real, ← EReal.coe_mul, ← EReal.coe_sub]
  rw [exceed_at, w_bot, fold_max, Finset.lt_sup_iff]
  constructor
  · rintro ⟨⟨r, k⟩, -, h⟩
    exact ⟨r, k, EReal.coe_pos.mp (h.trans_eq (e (rowOf g r) k))⟩
  · rintro ⟨r, k, h⟩
    exact ⟨(r, k), Finset.mem_univ _, (EReal.coe_pos.mpr h).trans_eq (e (rowOf g r) k).symm⟩

end Cert.ReferenceIdeal.Stk

end
-- ==== Proof.RI.Value.lean ====
/- The reference's result: the potentials after every trip are the logarithms of the scales at that stage. -/
module

public import proofs.«01_k».proof.Proof.RI.Real

@[expose] public section

set_option maxRecDepth 16384

noncomputable section

namespace Cert.ReferenceIdeal.Stk

open Idealize.ShloMosaic Idealize.ShloMosaic.TcCoe Idealize.ShloMosaic.StableHlo
open Cert.ReferenceIdeal.Gen Cert.ReferenceIdeal.Value
open SoftTopK (Plane Scales Rows Stage expo pot newPot hop stage start step Moved)

/-- The scores of a group's rows. -/
abbrev rows (s : Fin 512 → Plane) (g : Fin 4) : Rows := fun r => s (rowOf g r)

theorem exists_row (i : Fin 512) : ∃ g r, i = rowOf g r :=
  ⟨⟨i.val / 128, by omega⟩, ⟨i.val % 128, Nat.mod_lt _ (by norm_num)⟩, Fin.ext (by show i.val = i.val / 128 * 128 + i.val % 128; omega)⟩

/-- Potentials and the groups' movement are those of a stage of every group. -/
structure Holds (v : VV Ideal) (mv : VM Ideal) (p : Fin 512 → Scales) (S : Fin 4 → Stage) : Prop where
  v : ∀ i k, v (ix2 i k) = ((p i k : ℝ) : EReal)
  a : ∀ g r k, Real.exp (p (rowOf g r) k) = (S g).a r k
  on : ∀ g, (S g).moving → mv (ix3 g 0 0) = ((1 : ℝ) : EReal)
  off : ∀ g, ¬(S g).moving → mv (ix3 g 0 0) = 0

section Step

variable {K : VK Ideal} {s : Fin 512 → Plane} (hK : ∀ i j k, K (ix3 i j k) = ((expo (s i) j k : ℝ) : EReal))
  {v : VV Ideal}

/-- A row's scales after its new potentials. -/
theorem exp_new (p : Scales) (s : Plane) (k : Fin 3) :
    Real.exp (newPot (expo s) p k) = SoftTopK.next (SoftTopK.plane0 s) (SoftTopK.plane2 s) (fun k => Real.exp (p k)) k :=
  congrFun (SoftTopK.exp_newPot (SoftTopK.plane0_eq s) (SoftTopK.plane2_eq s) p) k

include hK

/-- The first trip, from potentials zero and every group at 2. -/
theorem first_holds {mv : VM Ideal} (hv : ∀ i k, v (ix2 i k) = ((0 : ℝ) : EReal)) (hm : ∀ g, mv (ix3 g 0 0) = ((2 : ℝ) : EReal)) :
    ∃ p, Holds (keepV v (newV K logNu (newU K logMu v)) mv) (keepM v (newV K logNu (newU K logMu v)) mv) p (fun g => start (rows s g)) := by
  have hw := newV_real hK (p := fun _ _ => 0) hv
  have h2 (g : Fin 4) : (0 : EReal) < mv (ix3 g 0 0) := by rw [hm]; exact EReal.coe_pos.mpr two_pos
  have h1 (g : Fin 4) : Ideal.ofBits .f32 0x3F800000#32 < mv (ix3 g 0 0) := by
    rw [hm, SoftTopK.w_one]; exact EReal.coe_lt_coe_iff.mpr one_lt_two
  refine ⟨fun i => newPot (expo (s i)) fun _ => 0, ?_, ?_, ?_, ?_⟩
  · intro i k
    obtain ⟨g, r, rfl⟩ := exists_row i
    rw [keepV_at, if_pos (h2 g)]
    exact hw _ _
  · intro g r k
    rw [exp_new]
    simp only [Real.exp_zero]
    rfl
  · intro g _
    rw [keepM_at, if_pos (h1 g)]
    exact SoftTopK.w_one
  · exact fun g h => absurd trivial h

/-- Any other trip. -/
theorem next_holds {mv : VM Ideal} {p : Fin 512 → Scales} {S : Fin 4 → Stage} (h : Holds v mv p S) :
    ∃ q, Holds (keepV v (newV K logNu (newU K logMu v)) mv) (keepM v (newV K logNu (newU K logMu v)) mv) q
      (fun g => hop (rows s g) (S g)) := by
  classical
  have hw := newV_real hK h.v
  have hstep (g : Fin 4) : (fun r k => Real.exp (newPot (expo (s (rowOf g r))) (p (rowOf g r)) k)) = step (rows s g) (S g).a := by
    funext r k
    rw [exp_new]
    simp only [h.a]
    rfl
  have hx (g : Fin 4) : 0 < exceed v (newV K logNu (newU K logMu v)) (ix3 g 0 0) ↔ Moved (S g).a (step (rows s g) (S g).a) := by
    have e := exceed_pos h.v hw g
    rwa [hstep g, show (fun r k => Real.exp (p (rowOf g r) k)) = (S g).a from funext fun r => funext fun k => h.a g r k] at e
  have hn (g : Fin 4) : ¬ Ideal.ofBits .f32 0x3F800000#32 < mv (ix3 g 0 0) := by
    by_cases hm : (S g).moving
    · rw [h.on g hm, SoftTopK.w_one]; exact lt_irrefl _
    · rw [h.off g hm, SoftTopK.w_one]; exact not_lt.mpr (EReal.coe_nonneg.mpr zero_le_one)
  have hpos (g : Fin 4) : (0 : EReal) < mv (ix3 g 0 0) ↔ (S g).moving := by
    by_cases hm : (S g).moving
    · rw [h.on g hm]; exact iff_of_true (EReal.coe_pos.mpr one_pos) hm
    · rw [h.off g hm]; exact iff_of_false (lt_irrefl _) hm
  let group (i : Fin 512) : Fin 4 := ⟨i.val / 128, by omega⟩
  have hg (g : Fin 4) (r : Fin 128) : group (rowOf g r) = g := Fin.ext (by show (g.val * 128 + r.val) / 128 = g.val; omega)
  refine ⟨fun i => if (S (group i)).moving then newPot (expo (s i)) (p i) else p i, ?_, ?_, ?_, ?_⟩
  · intro i k
    obtain ⟨g, r, rfl⟩ := exists_row i
    rw [keepV_at]
    by_cases hm : (S g).moving
    · rw [if_pos ((hpos g).mpr hm), hg, if_pos hm]; exact hw _ _
    · rw [if_neg fun h' => hm ((hpos g).mp h'), hg, if_neg hm]; exact h.v _ _
  · intro g r k
    rw [hg, SoftTopK.hop_a]
    unfold SoftTopK.after
    by_cases hm : (S g).moving
    · rw [if_pos hm, if_pos hm]; exact congrFun (congrFun (hstep g) r) k
    · rw [if_neg hm, if_neg hm]; exact h.a g r k
  · intro g hm'
    rw [keepM_at, if_neg (hn g)]
    by_cases hm : (S g).moving
    · rw [show hop (rows s g) (S g) = ⟨step (rows s g) (S g).a, Moved (S g).a (step (rows s g) (S g).a)⟩ from if_pos hm] at hm'
      rw [if_pos ((hx g).mpr hm')]; exact h.on g hm
    · rw [show hop (rows s g) (S g) = S g from if_neg hm] at hm'
      exact absurd hm' hm
  · intro g hm'
    rw [keepM_at, if_neg (hn g)]
    by_cases hm : (S g).moving
    · rw [show hop (rows s g) (S g) = ⟨step (rows s g) (S g).a, Moved (S g).a (step (rows s g) (S g).a)⟩ from if_pos hm] at hm'
      rw [if_neg fun h' => hm' ((hx g).mp h')]
    · rw [h.off g hm, ite_self]

/-- The answer read with potentials `v` for the scores and `w` for the anchors. -/
theorem answer_real {w : VV Ideal} {p q : Fin 512 → Scales} (hv : ∀ i k, v (ix2 i k) = ((p i k : ℝ) : EReal))
    (hw : ∀ i k, w (ix2 i k) = ((q i k : ℝ) : EReal)) (i : Fin 512) (j : Fin 4096) :
    answer K (newU K logMu v) w (ix2 i j) = ((SoftTopK.read (SoftTopK.plane0 (s i)) (SoftTopK.plane2 (s i)) (fun k => Real.exp (p i k))
      (fun k => Real.exp (q i k)) j : ℝ) : EReal) := by
  rw [answer_at, plan_at, plan_at, hK, hK, newU_real hK hv, hw, hw, SoftTopK.w_all, ← EReal.coe_add, ← EReal.coe_add, ← EReal.coe_add,
    ← EReal.coe_add, Ideal.exp_coe, Ideal.exp_coe, ← EReal.coe_sub, ← EReal.coe_mul,
    SoftTopK.plan_read (SoftTopK.plane0_eq (s i)) (SoftTopK.plane2_eq (s i))]

end Step

/-! ## The 200 trips -/

section Run

variable (m : (ℓ : Loc nD τ sig) → Buf (Elt Ideal) ℓ) (c : Dev nD)

theorem at_succ (k : ℕ) : at' m c (k + 1) = STEP (at' m c k) := Function.iterate_succ_apply' _ _ _

theorem at_K : ∀ k, at' m c k (Proc.devRef .tc main_v27_0) = logKernel (scores m c)
  | 0 => entry_K m c
  | k + 1 => by rw [at_succ]; exact (STEP_main_v27_0 _).trans (at_K k)
theorem at_mu : ∀ k, at' m c k (Proc.devRef .tc main_v27_1) = logMu (F := Ideal)
  | 0 => entry_mu m c
  | k + 1 => by rw [at_succ]; exact (STEP_main_v27_1 _).trans (at_mu k)
theorem at_nu : ∀ k, at' m c k (Proc.devRef .tc main_v27_2) = logNu (F := Ideal)
  | 0 => entry_nu m c
  | k + 1 => by rw [at_succ]; exact (STEP_main_v27_2 _).trans (at_nu k)

/-- The anchors' potentials and the groups' movement after `k` trips. -/
abbrev vAt (k : ℕ) : VV Ideal := at' m c k (Proc.devRef .tc main_v27_5)
abbrev mAt (k : ℕ) : VM Ideal := at' m c k (Proc.devRef .tc main_v27_6)

theorem u_succ (k : ℕ) : at' m c (k + 1) (Proc.devRef .tc main_v27_4) = newU (logKernel (scores m c)) logMu (vAt m c k) := by
  rw [at_succ, step_u, at_K, at_mu]
theorem v_succ (k : ℕ) : vAt m c (k + 1) = keepV (vAt m c k)
    (newV (logKernel (scores m c)) logNu (newU (logKernel (scores m c)) logMu (vAt m c k))) (mAt m c k) := by
  unfold vAt mAt
  rw [at_succ, step_v, new_v, at_K, at_mu, at_nu]
theorem m_succ (k : ℕ) : mAt m c (k + 1) = keepM (vAt m c k)
    (newV (logKernel (scores m c)) logNu (newU (logKernel (scores m c)) logMu (vAt m c k))) (mAt m c k) := by
  unfold vAt mAt
  rw [at_succ, step_m, new_v, at_K, at_mu, at_nu]

/-- The scores moved to the unit interval. -/
abbrev moved : Fin 512 → Plane := unitRows (scores m c)

theorem holds_at : ∀ k, ∃ p, Holds (vAt m c (k + 1)) (mAt m c (k + 1)) p (fun g => stage (rows (moved m c) g) k)
  | 0 => by
    rw [v_succ, m_succ]
    refine first_holds (logKernel_real (scores m c)) (fun i k => ?_) fun g => ?_
    · exact (congrFun (entry_v m c) (ix2 i k)).trans (Ideal.ofBits_zero_f32.trans EReal.coe_zero.symm)
    · exact (congrFun (entry_moving m c) (ix3 g 0 0)).trans SoftTopK.w_two
  | k + 1 => by
    obtain ⟨p, hp⟩ := holds_at k
    rw [v_succ m c (k + 1), m_succ m c (k + 1)]
    simp only [SoftTopK.stage_succ]
    exact next_holds (logKernel_real (scores m c)) hp

/-- The result. -/
theorem answer_run (g : Fin 4) (r : Fin 128) (j : Fin 4096) :
    answer (logKernel (scores m c)) (at' m c 200 (Proc.devRef .tc main_v27_4)) (at' m c 200 (Proc.devRef .tc main_v27_5)) (ix2 (rowOf g r) j)
      = ((SoftTopK.output (rows (moved m c) g) r j : ℝ) : EReal) := by
  obtain ⟨p, hp⟩ := holds_at m c 198
  obtain ⟨q, hq⟩ := holds_at m c 199
  rw [show at' m c 200 (Proc.devRef .tc main_v27_4) = _ from u_succ m c 199]
  refine (answer_real (logKernel_real (scores m c)) hp.v hq.v (rowOf g r) j).trans ?_
  have ep : (fun k => Real.exp (p (rowOf g r) k)) = (stage (rows (moved m c) g) 198).a r := funext (hp.a g r)
  have eq : (fun k => Real.exp (q (rowOf g r) k)) = SoftTopK.after (rows (moved m c) g) (stage (rows (moved m c) g) 198) r :=
    (funext (hq.a g r)).trans (congrFun ((congrArg Stage.a (SoftTopK.stage_succ (rows (moved m c) g) 198)).trans (SoftTopK.hop_a _ _)) r)
  rw [ep, eq]
  rfl

end Run

end Cert.ReferenceIdeal.Stk

end
-- ==== Proof.Math.Stop.lean ====
/-
  How far the stopped rescaling is from the one that goes on: a step is monotone in the scales and scales with them, so scales
  within a factor of one another stay within it, and a group that has stopped drifts by at most the tolerance a step.
-/
module

public import proofs.«01_k».proof.Proof.Math.Group

@[expose] public section

noncomputable section

namespace SoftTopK

/-- `b` is between `l` and `h` times `a`. -/
def Within (l h : ℝ) (a b : Scales) : Prop := ∀ k, l * a k ≤ b k ∧ b k ≤ h * a k

section Step

variable {q0 q2 : Plane} (h0 : ∀ j, 0 < q0 j) (h2 : ∀ j, 0 < q2 j)
include h0 h2

theorem den_mono {a b : Scales} (h : ∀ k, a k ≤ b k) (j : Fin 4096) : den q0 q2 a j ≤ den q0 q2 b j := by
  unfold den
  have := mul_le_mul_of_nonneg_left (h 0) (h0 j).le
  have := mul_le_mul_of_nonneg_left (h 2) (h2 j).le
  have := h 1
  linarith

/-- The three scales after a step are shares over column sums. -/
theorem next_eq {a : Scales} (ha : ∀ k, 0 < a k) (k : Fin 3) : next q0 q2 a k
    = (![512, 3072, 512] : Fin 3 → ℝ) k / ∑ j, (![q0, fun _ => 1, q2] : Fin 3 → Plane) k j * (1 / den q0 q2 a j) := by
  fin_cases k
  · exact next0_eq h0 h2 ha
  · show 3072 / col1 q0 q2 a = 3072 / ∑ j, 1 * (1 / den q0 q2 a j)
    unfold col1; simp only [one_mul]
  · rfl

theorem weight_pos (k : Fin 3) (j : Fin 4096) : 0 < (![q0, fun _ => 1, q2] : Fin 3 → Plane) k j := by
  fin_cases k
  · exact h0 j
  · exact one_pos
  · exact h2 j

theorem next_mono {a b : Scales} (ha : ∀ k, 0 < a k) (h : ∀ k, a k ≤ b k) (k : Fin 3) : next q0 q2 a k ≤ next q0 q2 b k := by
  have hb : ∀ k, 0 < b k := fun k => (ha k).trans_le (h k)
  rw [next_eq h0 h2 ha, next_eq h0 h2 hb]
  have hs : (0 : ℝ) ≤ (![512, 3072, 512] : Fin 3 → ℝ) k := by fin_cases k <;> norm_num
  refine div_le_div_of_nonneg_left hs (Finset.sum_pos (fun j _ => mul_pos (weight_pos h0 h2 k j) (one_div_pos.mpr (den_pos h0 h2 hb j)))
    Finset.univ_nonempty) (Finset.sum_le_sum fun j _ => ?_)
  exact mul_le_mul_of_nonneg_left (one_div_le_one_div_of_le (den_pos h0 h2 ha j) (den_mono h0 h2 h j)) (weight_pos h0 h2 k j).le

theorem next_smul {a : Scales} (ha : ∀ k, 0 < a k) {c : ℝ} (hc : 0 < c) (k : Fin 3) :
    next q0 q2 (fun k => c * a k) k = c * next q0 q2 a k := by
  have hd (j : Fin 4096) : den q0 q2 (fun k => c * a k) j = c * den q0 q2 a j := by unfold den; ring
  rw [next_eq h0 h2 (fun k => mul_pos hc (ha k)), next_eq h0 h2 ha]
  have e : ∑ j, (![q0, fun _ => 1, q2] : Fin 3 → Plane) k j * (1 / den q0 q2 (fun k => c * a k) j)
      = c⁻¹ * ∑ j, (![q0, fun _ => 1, q2] : Fin 3 → Plane) k j * (1 / den q0 q2 a j) := by
    rw [Finset.mul_sum]
    refine Finset.sum_congr rfl fun j _ => ?_
    rw [hd, one_div, one_div, mul_inv]; ring
  rw [e, div_mul_eq_div_div, div_inv_eq_mul]
  ring

theorem within_next {l h : ℝ} (hl : 0 < l) (hh : 0 < h) {a b : Scales} (ha : ∀ k, 0 < a k) (hb : ∀ k, 0 < b k) (hw : Within l h a b) :
    Within l h (next q0 q2 a) (next q0 q2 b) := fun k =>
  ⟨(next_smul h0 h2 ha hl k).symm.le.trans (next_mono h0 h2 (fun k => mul_pos hl (ha k)) (fun k => (hw k).1) k),
    (next_mono h0 h2 hb (fun k => (hw k).2) k).trans (next_smul h0 h2 ha hh k).le⟩

/-- Outputs read and normalized with scales `a`, and with scales within `l` and `h` of them. -/
theorem read_within {l h : ℝ} (hl : 0 < l) (hl1 : l ≤ 1) (hh : 1 ≤ h) {a b c : Scales} (ha : ∀ k, 0 < a k) (hb : Within l h a b)
    (hc : Within l h a c) (j : Fin 4096) : |read q0 q2 a a j - read q0 q2 b c j| ≤ h / l - 1 := by
  have hbp : ∀ k, 0 < b k := fun k => (mul_pos hl (ha k)).trans_le (hb k).1
  have hd := den_pos h0 h2 ha j
  have hd' := den_pos h0 h2 hbp j
  have h0p := h0 j
  have h2p := h2 j
  have hh0 : 0 < h := one_pos.trans_le hh
  -- the two normalizing sums
  have hlo : l * den q0 q2 a j ≤ den q0 q2 b j := by
    unfold den
    have := mul_le_mul_of_nonneg_left (hb 0).1 h0p.le
    have := mul_le_mul_of_nonneg_left (hb 2).1 h2p.le
    have := (hb 1).1
    nlinarith
  have hhi : den q0 q2 b j ≤ h * den q0 q2 a j := by
    unfold den
    have := mul_le_mul_of_nonneg_left (hb 0).2 h0p.le
    have := mul_le_mul_of_nonneg_left (hb 2).2 h2p.le
    have := (hb 1).2
    nlinarith
  -- one term
  have term {q x y : ℝ} (hq : 0 < q) (hx : 0 < x) (hy : l * x ≤ y ∧ y ≤ h * x) :
      |q * x / den q0 q2 a j - q * y / den q0 q2 b j| ≤ (h / l - 1) * (q * x / den q0 q2 a j) := by
    have hT : 0 < q * x / den q0 q2 a j := by positivity
    have hy0 : 0 < y := (mul_pos hl hx).trans_le hy.1
    have up : q * y / den q0 q2 b j ≤ h / l * (q * x / den q0 q2 a j) := by
      calc q * y / den q0 q2 b j ≤ q * (h * x) / (l * den q0 q2 a j) :=
            div_le_div₀ (by positivity) (mul_le_mul_of_nonneg_left hy.2 hq.le) (by positivity) hlo
        _ = h / l * (q * x / den q0 q2 a j) := by field_simp
    have down : l / h * (q * x / den q0 q2 a j) ≤ q * y / den q0 q2 b j := by
      calc l / h * (q * x / den q0 q2 a j) = q * (l * x) / (h * den q0 q2 a j) := by field_simp
        _ ≤ q * y / den q0 q2 b j := div_le_div₀ (by positivity) (mul_le_mul_of_nonneg_left hy.1 hq.le) hd' hhi
    have sym : 2 - h / l ≤ l / h := by
      rw [← sub_nonneg]
      have : l / h - (2 - h / l) = (h - l) ^ 2 / (h * l) := by field_simp; ring
      rw [this]; positivity
    rw [abs_le]
    constructor
    · nlinarith
    · nlinarith [mul_le_mul_of_nonneg_right sym hT.le]
  have t2 := term h2p (ha 2) (hc 2)
  have t0 := term h0p (ha 0) (hc 0)
  have e1 : read q0 q2 a a j = q2 j * a 2 / den q0 q2 a j - q0 j * a 0 / den q0 q2 a j := by unfold read; ring
  have e2 : read q0 q2 b c j = q2 j * c 2 / den q0 q2 b j - q0 j * c 0 / den q0 q2 b j := by unfold read; ring
  have hsum : q2 j * a 2 / den q0 q2 a j + q0 j * a 0 / den q0 q2 a j ≤ 1 := by
    rw [← add_div, div_le_one hd]
    unfold den
    have := ha 1
    linarith
  have hr : 0 ≤ h / l - 1 := by rw [sub_nonneg, one_le_div hl]; linarith
  rw [e1, e2]
  calc |q2 j * a 2 / den q0 q2 a j - q0 j * a 0 / den q0 q2 a j - (q2 j * c 2 / den q0 q2 b j - q0 j * c 0 / den q0 q2 b j)|
      ≤ |q2 j * a 2 / den q0 q2 a j - q2 j * c 2 / den q0 q2 b j| + |q0 j * a 0 / den q0 q2 a j - q0 j * c 0 / den q0 q2 b j| := by
        rw [show q2 j * a 2 / den q0 q2 a j - q0 j * a 0 / den q0 q2 a j - (q2 j * c 2 / den q0 q2 b j - q0 j * c 0 / den q0 q2 b j)
          = (q2 j * a 2 / den q0 q2 a j - q2 j * c 2 / den q0 q2 b j) - (q0 j * a 0 / den q0 q2 a j - q0 j * c 0 / den q0 q2 b j) by ring]
        exact abs_sub _ _
    _ ≤ (h / l - 1) * (q2 j * a 2 / den q0 q2 a j + q0 j * a 0 / den q0 q2 a j) := by rw [mul_add]; exact add_le_add t2 t0
    _ ≤ h / l - 1 := mul_le_of_le_one_right hr hsum

end Step

/-! ## The group -/

/-- The scales after `k` further steps that nothing stops. -/
def full (s : Rows) (k : ℕ) : Group := (step s)^[k] (step s fun _ _ => 1)

theorem full_succ (s : Rows) (k : ℕ) : full s (k + 1) = step s (full s k) := Function.iterate_succ_apply' _ _ _

theorem full_pos (s : Rows) : ∀ k r i, 0 < full s k r i
  | 0 => step_pos s fun _ _ => one_pos
  | k + 1 => by rw [full_succ]; exact step_pos s (full_pos s k)

/-- The output of a group of rows that nothing stops. -/
def fullOutput (s : Rows) (r : Fin 128) (j : Fin 4096) : ℝ :=
  read (plane0 (s r)) (plane2 (s r)) (full s 198 r) (full s 199 r) j

theorem tol_pos : 0 < tol := by unfold tol; norm_num
theorem tol_lt : 0 < 1 - tol := by unfold tol; norm_num

/-- A step that moves nothing beyond the tolerance. -/
theorem within_of_not_moved {a b : Group} (h : ¬Moved a b) (r : Fin 128) : Within (1 - tol) (1 + tol) (a r) (b r) := fun k => by
  have hk : |b r k - a r k| - tol * a r k ≤ 0 := not_lt.mp fun h' => h ⟨r, k, h'⟩
  have := abs_le.mp (sub_nonpos.mp hk)
  constructor <;> linarith [this.1, this.2]

theorem within_step (s : Rows) {l h : ℝ} (hl : 0 < l) (hh : 0 < h) {a b : Group} (ha : ∀ r k, 0 < a r k) (hb : ∀ r k, 0 < b r k)
    (hw : ∀ r, Within l h (a r) (b r)) (r : Fin 128) : Within l h (step s a r) (step s b r) :=
  within_next (plane0_pos _) (plane2_pos _) hl hh (ha r) (hb r) (hw r)

theorem Within.trans {l h l' h' : ℝ} (hl : 0 ≤ l') (hh : 0 ≤ h') {a b c : Scales} (hab : Within l h a b) (hbc : Within l' h' b c) :
    Within (l' * l) (h' * h) a c := fun k =>
  ⟨by rw [mul_assoc]; exact (mul_le_mul_of_nonneg_left (hab k).1 hl).trans (hbc k).1,
    by rw [mul_assoc]; exact (hbc k).2.trans (mul_le_mul_of_nonneg_left (hab k).2 hh)⟩

/-- The stopped scales and those that go on: equal while the group moves, and within the tolerance a step afterwards. -/
structure Drift (s : Rows) (k : ℕ) : Prop where
  same : (stage s k).moving → (stage s k).a = full s k
  still : ¬(stage s k).moving → ∀ r, Within (1 - tol) (1 + tol) ((stage s k).a r) (step s (stage s k).a r)
  near : ∀ r, Within ((1 - tol) ^ k) ((1 + tol) ^ k) ((stage s k).a r) (full s k r)

theorem within_one {l h : ℝ} (hl : l ≤ 1) (hh : 1 ≤ h) {a : Scales} (ha : ∀ k, 0 < a k) : Within l h a a := fun k =>
  ⟨by nlinarith [ha k], by nlinarith [ha k]⟩

theorem low_pow (k : ℕ) : (1 - tol) ^ k ≤ 1 := pow_le_one₀ tol_lt.le (by linarith [tol_pos])
theorem high_pow (k : ℕ) : 1 ≤ (1 + tol) ^ k := one_le_pow₀ (by linarith [tol_pos])

theorem drift (s : Rows) : ∀ k, Drift s k
  | 0 => ⟨fun _ => rfl, fun h => absurd trivial h, fun r => within_one (by simp) (by simp) (stage_pos s 0 r)⟩
  | k + 1 => by
    have ih := drift s k
    have hp := stage_pos s k
    by_cases hm : (stage s k).moving
    · have e : stage s (k + 1) = ⟨step s (stage s k).a, Moved (stage s k).a (step s (stage s k).a)⟩ :=
        (stage_succ s k).trans (if_pos hm)
      have ef : step s (stage s k).a = full s (k + 1) := by rw [full_succ, ih.same hm]
      refine ⟨fun _ => ?_, fun h r => ?_, fun r => ?_⟩
      · rw [e]; exact ef
      · rw [e] at h ⊢
        exact within_step s tol_lt (by linarith [tol_pos]) hp (step_pos s hp) (within_of_not_moved h) r
      · rw [e]
        show Within _ _ (step s (stage s k).a r) _
        rw [ef]
        exact within_one (low_pow _) (high_pow _) (full_pos s (k + 1) r)
    · have e : stage s (k + 1) = stage s k := (stage_succ s k).trans (if_neg hm)
      refine ⟨fun h => absurd (e ▸ h) hm, fun _ => by rw [e]; exact ih.still hm, fun r => ?_⟩
      rw [e, full_succ, pow_succ, pow_succ]
      exact (ih.still hm r).trans (pow_pos tol_lt k).le (pow_nonneg (by linarith [tol_pos]) k)
        (within_step s (pow_pos tol_lt k) (pow_pos (by linarith [tol_pos]) k) hp (full_pos s k) ih.near r)

/-- The drift over all steps. -/
theorem drift_le : (1 + tol) ^ 199 / (1 - tol) ^ 199 - 1 ≤ 1 / 1000 := by
  have h : (1 + tol) / (1 - tol) ≤ 1 + 1 / 240000 := by
    rw [div_le_iff₀ tol_lt]; unfold tol; norm_num
  have hp : 0 ≤ (1 + tol) / (1 - tol) := div_nonneg (by linarith [tol_pos]) tol_lt.le
  rw [← div_pow]
  have := pow_le_pow_left₀ hp h 199
  have hn : ((1 : ℝ) + 1 / 240000) ^ 199 ≤ 1001 / 1000 := by norm_num
  linarith

/-- The stopped output is within a thousandth of the one that goes on. -/
theorem output_near (s : Rows) (r : Fin 128) (j : Fin 4096) : |output s r j - fullOutput s r j| ≤ 1 / 1000 := by
  by_cases hm : (stage s 198).moving
  · have e : output s r j = fullOutput s r j := by
      unfold output fullOutput after
      rw [if_pos hm, (drift s 198).same hm, full_succ s 198]
    rw [e, sub_self, abs_zero]; norm_num
  · have e : stage s 199 = stage s 198 := (stage_succ s 198).trans (if_neg hm)
    have ho : output s r j = read (plane0 (s r)) (plane2 (s r)) ((stage s 198).a r) ((stage s 198).a r) j := by
      unfold output after; rw [if_neg hm]
    have hb : Within ((1 - tol) ^ 199) ((1 + tol) ^ 199) ((stage s 198).a r) (full s 198 r) := fun k => by
      have hk := (drift s 198).near r k
      have hp := stage_pos s 198 r k
      constructor
      · refine le_trans (mul_le_mul_of_nonneg_right ?_ hp.le) hk.1
        exact pow_le_pow_of_le_one tol_lt.le (by linarith [tol_pos]) (by norm_num)
      · refine hk.2.trans (mul_le_mul_of_nonneg_right ?_ hp.le)
        exact pow_le_pow_right₀ (by linarith [tol_pos]) (by norm_num)
    have hc := (drift s 199).near r
    rw [e] at hc
    rw [ho]
    exact (read_within (plane0_pos _) (plane2_pos _) (pow_pos tol_lt _) (low_pow _) (high_pow _) (stage_pos s 198 r) hb hc j).trans drift_le

end SoftTopK

end
-- ==== Proof.lean ====
/- The proof of the certificate's claims: the two programs' frames, and that over the extended reals they end with the same array. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.ReferenceIdeal
public import proofs.«01_k».proof.Proof.K.Run
public import proofs.«01_k».proof.Proof.KI.Array
public import proofs.«01_k».proof.Proof.RI.Value
public import proofs.«01_k».proof.Proof.Math.Stop
public import Idealize.ShloMosaic.Adequacy
public import Idealize.ShloMosaic.Init

@[expose] public section

noncomputable section

set_option maxRecDepth 16384

namespace Cert.Proof

open Idealize.ShloMosaic Idealize.ShloMosaic.TcCoe Idealize.SL.Sem

/-- The reference's array is the kernel's: both are the output of the scores moved to the unit interval. -/
theorem answer_eq (m' : (ℓ : Loc Cert.ReferenceIdeal.nD Cert.ReferenceIdeal.τ Cert.ReferenceIdeal.sig) → Buf (Elt Ideal) ℓ)
    (c : Dev Cert.ReferenceIdeal.nD) (x : FVec Ideal Cert.KernelIdeal.S512x4096 .f32)
    (h : Cert.ReferenceIdeal.Stk.scores m' c = x) :
    Cert.ReferenceIdeal.Stk.answer (Cert.ReferenceIdeal.Stk.logKernel (Cert.ReferenceIdeal.Stk.scores m' c))
        (Cert.ReferenceIdeal.Stk.at' m' c 200 (Proc.devRef .tc Cert.ReferenceIdeal.main_v27_4))
        (Cert.ReferenceIdeal.Stk.at' m' c 200 (Proc.devRef .tc Cert.ReferenceIdeal.main_v27_5))
      = Cert.KernelIdeal.Stk.target (Cert.KernelIdeal.Stk.unitRows x) := by
  subst h
  funext i
  obtain ⟨a, j, rfl⟩ : ∃ (a : Fin 512) (j : Fin 4096), i = ix2 a j := ⟨i 0, i 1, by funext b; fin_cases b <;> rfl⟩
  obtain ⟨g, r, rfl⟩ := Cert.ReferenceIdeal.Stk.exists_row a
  exact (Cert.ReferenceIdeal.Stk.answer_run m' c g r j).trans
    (Cert.KernelIdeal.Stk.target_row (Cert.KernelIdeal.Stk.unitRows (Cert.ReferenceIdeal.Stk.scores m' c)) g r j).symm

/-- Over the extended reals both programs end with the same array. -/
theorem algebraic : Cert.algebraic_KernelIdeal_ReferenceIdeal (hKernelIdeal := Cert.KernelIdeal.Gen.facts)
    (hReferenceIdeal := Cert.ReferenceIdeal.Gen.facts) := fun m g m' g' _ hagree =>
  ⟨fun c => Cert.KernelIdeal.Stk.target (Cert.KernelIdeal.Stk.unitRows (m ((c.tc : Thread _ _).loc Cert.KernelIdeal.main_arg0))),
    Cert.KernelIdeal.Stk.run_value m g,
    (θ_run Cert.ReferenceIdeal.defs _ _).mono (fun _ h c => ⟨(h.1 c).1.trans (answer_eq m' c _ (hagree c)), (h.1 c).2⟩)
      (Cert.ReferenceIdeal.Stk.run_all m' g')⟩

/-- The reference's frame. -/
theorem frame_reference : Cert.quiescent_ReferenceIdeal (hReferenceIdeal := Cert.ReferenceIdeal.Gen.facts) := fun m g _ =>
  (θ_run Cert.ReferenceIdeal.defs _ _).mono (fun _ h => ⟨fun c => (h.1 c).2, h.2⟩) (Cert.ReferenceIdeal.Stk.run_all m g)

theorem claim : Cert.Claim := ⟨Cert.Kernel.Gen.facts, Cert.KernelIdeal.Gen.facts, Cert.ReferenceIdeal.Gen.facts,
  fun m g _ => Cert.Kernel.Stk.frame_claim m g,
  fun m g _ => Cert.KernelIdeal.Stk.frame_claim m g,
  frame_reference,
  trivial,
  algebraic⟩

end Cert.Proof

end
